-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1x512 : Shape := ⟨3, ![1024, 1, 512]⟩
abbrev S512x1x1x32 : Shape := ⟨4, ![512, 1, 1, 32]⟩
abbrev S256x32x32 : Shape := ⟨3, ![256, 32, 32]⟩
abbrev S128x32x32 : Shape := ⟨3, ![128, 32, 32]⟩
abbrev S64x32x32 : Shape := ⟨3, ![64, 32, 32]⟩
abbrev S32x32x32 : Shape := ⟨3, ![32, 32, 32]⟩
abbrev S16x32x32 : Shape := ⟨3, ![16, 32, 32]⟩
abbrev S8x32x32 : Shape := ⟨3, ![8, 32, 32]⟩
abbrev S4x32x32 : Shape := ⟨3, ![4, 32, 32]⟩
abbrev S2x32x32 : Shape := ⟨3, ![2, 32, 32]⟩
abbrev S1x32x32 : Shape := ⟨3, ![1, 32, 32]⟩
abbrev S1024x1x32 : Shape := ⟨3, ![1024, 1, 32]⟩
abbrev S512x1x512 : Shape := ⟨3, ![512, 1, 512]⟩
abbrev S512x1x32 : Shape := ⟨3, ![512, 1, 32]⟩
abbrev S511x32x32 : Shape := ⟨3, ![511, 32, 32]⟩
abbrev S256x3x32 : Shape := ⟨3, ![256, 3, 32]⟩
abbrev S256x3x512 : Shape := ⟨3, ![256, 3, 512]⟩
abbrev S256x32x1 : Shape := ⟨3, ![256, 32, 1]⟩
abbrev S128x32x1 : Shape := ⟨3, ![128, 32, 1]⟩
abbrev S64x32x1 : Shape := ⟨3, ![64, 32, 1]⟩
abbrev S32x32x1 : Shape := ⟨3, ![32, 32, 1]⟩
abbrev S16x32x1 : Shape := ⟨3, ![16, 32, 1]⟩
abbrev S8x32x1 : Shape := ⟨3, ![8, 32, 1]⟩
abbrev S4x32x1 : Shape := ⟨3, ![4, 32, 1]⟩
abbrev S2x32x1 : Shape := ⟨3, ![2, 32, 1]⟩
abbrev S1x32x1 : Shape := ⟨3, ![1, 32, 1]⟩
abbrev S256x2x32 : Shape := ⟨3, ![256, 2, 32]⟩
abbrev S256x1x32 : Shape := ⟨3, ![256, 1, 32]⟩
abbrev S256x32 : Shape := ⟨2, ![256, 32]⟩
abbrev S256x512 : Shape := ⟨2, ![256, 512]⟩
abbrev S256x1x512 : Shape := ⟨3, ![256, 1, 512]⟩
abbrev S512x512 : Shape := ⟨2, ![512, 512]⟩
abbrev S256x2x512 : Shape := ⟨3, ![256, 2, 512]⟩
abbrev S256x32x512 : Shape := ⟨3, ![256, 32, 512]⟩
abbrev S128x2x32x512 : Shape := ⟨4, ![128, 2, 32, 512]⟩
abbrev S128x1x32x512 : Shape := ⟨4, ![128, 1, 32, 512]⟩
abbrev S128x32x512 : Shape := ⟨3, ![128, 32, 512]⟩
abbrev S128x2x1x512 : Shape := ⟨4, ![128, 2, 1, 512]⟩
abbrev S128x1x1x512 : Shape := ⟨4, ![128, 1, 1, 512]⟩
abbrev S128x1x512 : Shape := ⟨3, ![128, 1, 512]⟩
abbrev S128x1x32 : Shape := ⟨3, ![128, 1, 32]⟩
abbrev S64x2x32x512 : Shape := ⟨4, ![64, 2, 32, 512]⟩
abbrev S64x1x32x512 : Shape := ⟨4, ![64, 1, 32, 512]⟩
abbrev S64x32x512 : Shape := ⟨3, ![64, 32, 512]⟩
abbrev S64x2x1x512 : Shape := ⟨4, ![64, 2, 1, 512]⟩
abbrev S64x1x1x512 : Shape := ⟨4, ![64, 1, 1, 512]⟩
abbrev S64x1x512 : Shape := ⟨3, ![64, 1, 512]⟩
abbrev S64x1x32 : Shape := ⟨3, ![64, 1, 32]⟩
abbrev S32x2x32x512 : Shape := ⟨4, ![32, 2, 32, 512]⟩
abbrev S32x1x32x512 : Shape := ⟨4, ![32, 1, 32, 512]⟩
abbrev S32x32x512 : Shape := ⟨3, ![32, 32, 512]⟩
abbrev S32x2x1x512 : Shape := ⟨4, ![32, 2, 1, 512]⟩
abbrev S32x1x1x512 : Shape := ⟨4, ![32, 1, 1, 512]⟩
abbrev S32x1x512 : Shape := ⟨3, ![32, 1, 512]⟩
abbrev S32x1x32 : Shape := ⟨3, ![32, 1, 32]⟩
abbrev S16x2x32x512 : Shape := ⟨4, ![16, 2, 32, 512]⟩
abbrev S16x1x32x512 : Shape := ⟨4, ![16, 1, 32, 512]⟩
abbrev S16x32x512 : Shape := ⟨3, ![16, 32, 512]⟩
abbrev S16x2x1x512 : Shape := ⟨4, ![16, 2, 1, 512]⟩
abbrev S16x1x1x512 : Shape := ⟨4, ![16, 1, 1, 512]⟩
abbrev S16x1x512 : Shape := ⟨3, ![16, 1, 512]⟩
abbrev S16x1x32 : Shape := ⟨3, ![16, 1, 32]⟩
abbrev S8x2x32x512 : Shape := ⟨4, ![8, 2, 32, 512]⟩
abbrev S8x1x32x512 : Shape := ⟨4, ![8, 1, 32, 512]⟩
abbrev S8x32x512 : Shape := ⟨3, ![8, 32, 512]⟩
abbrev S8x2x1x512 : Shape := ⟨4, ![8, 2, 1, 512]⟩
abbrev S8x1x1x512 : Shape := ⟨4, ![8, 1, 1, 512]⟩
abbrev S8x1x512 : Shape := ⟨3, ![8, 1, 512]⟩
abbrev S8x1x32 : Shape := ⟨3, ![8, 1, 32]⟩
abbrev S4x2x32x512 : Shape := ⟨4, ![4, 2, 32, 512]⟩
abbrev S4x1x32x512 : Shape := ⟨4, ![4, 1, 32, 512]⟩
abbrev S4x32x512 : Shape := ⟨3, ![4, 32, 512]⟩
abbrev S4x2x1x512 : Shape := ⟨4, ![4, 2, 1, 512]⟩
abbrev S4x1x1x512 : Shape := ⟨4, ![4, 1, 1, 512]⟩
abbrev S4x1x512 : Shape := ⟨3, ![4, 1, 512]⟩
abbrev S4x1x32 : Shape := ⟨3, ![4, 1, 32]⟩
abbrev S2x2x32x512 : Shape := ⟨4, ![2, 2, 32, 512]⟩
abbrev S2x1x32x512 : Shape := ⟨4, ![2, 1, 32, 512]⟩
abbrev S2x32x512 : Shape := ⟨3, ![2, 32, 512]⟩
abbrev S2x2x1x512 : Shape := ⟨4, ![2, 2, 1, 512]⟩
abbrev S2x1x1x512 : Shape := ⟨4, ![2, 1, 1, 512]⟩
abbrev S2x1x512 : Shape := ⟨3, ![2, 1, 512]⟩
abbrev S2x1x32 : Shape := ⟨3, ![2, 1, 32]⟩
abbrev S1x2x32x512 : Shape := ⟨4, ![1, 2, 32, 512]⟩
abbrev S1x1x32x512 : Shape := ⟨4, ![1, 1, 32, 512]⟩
abbrev S1x32x512 : Shape := ⟨3, ![1, 32, 512]⟩
abbrev S1x2x1x512 : Shape := ⟨4, ![1, 2, 1, 512]⟩
abbrev S1x1x1x512 : Shape := ⟨4, ![1, 1, 1, 512]⟩
abbrev S1x1x512 : Shape := ⟨3, ![1, 1, 512]⟩
abbrev S1x1x32 : Shape := ⟨3, ![1, 1, 32]⟩
abbrev S1x512 : Shape := ⟨2, ![1, 512]⟩
abbrev S32x512 : Shape := ⟨2, ![32, 512]⟩
abbrev S512x32 : Shape := ⟨2, ![512, 32]⟩

abbrev nBuf : Space → Nat
  | .hbm => 12
  | .vmem => 17
  | .smem => 0
  | _ => 0

abbrev bufTy : (tb : Table) → Fin (tcTables nBuf tb) → BufTy
  | .hbm, ⟨0, _⟩ => ⟨S1024x1x512, .f32⟩
  | .hbm, ⟨1, _⟩ => ⟨S512x1x1x32, .f32⟩
  | .hbm, ⟨2, _⟩ => ⟨S256x32x32, .f32⟩
  | .hbm, ⟨3, _⟩ => ⟨S128x32x32, .f32⟩
  | .hbm, ⟨4, _⟩ => ⟨S64x32x32, .f32⟩
  | .hbm, ⟨5, _⟩ => ⟨S32x32x32, .f32⟩
  | .hbm, ⟨6, _⟩ => ⟨S16x32x32, .f32⟩
  | .hbm, ⟨7, _⟩ => ⟨S8x32x32, .f32⟩
  | .hbm, ⟨8, _⟩ => ⟨S4x32x32, .f32⟩
  | .hbm, ⟨9, _⟩ => ⟨S2x32x32, .f32⟩
  | .hbm, ⟨10, _⟩ => ⟨S1x32x32, .f32⟩
  | .hbm, ⟨11, _⟩ => ⟨S1024x1x32, .f32⟩
  | .local _ .vmem, ⟨0, _⟩ => ⟨S512x1x512, .f32⟩
  | .local _ .vmem, ⟨1, _⟩ => ⟨S512x1x512, .f32⟩
  | .local _ .vmem, ⟨2, _⟩ => ⟨S512x1x1x32, .f32⟩
  | .local _ .vmem, ⟨3, _⟩ => ⟨S256x32x32, .f32⟩
  | .local _ .vmem, ⟨4, _⟩ => ⟨S128x32x32, .f32⟩
  | .local _ .vmem, ⟨5, _⟩ => ⟨S64x32x32, .f32⟩
  | .local _ .vmem, ⟨6, _⟩ => ⟨S32x32x32, .f32⟩
  | .local _ .vmem, ⟨7, _⟩ => ⟨S16x32x32, .f32⟩
  | .local _ .vmem, ⟨8, _⟩ => ⟨S8x32x32, .f32⟩
  | .local _ .vmem, ⟨9, _⟩ => ⟨S4x32x32, .f32⟩
  | .local _ .vmem, ⟨10, _⟩ => ⟨S2x32x32, .f32⟩
  | .local _ .vmem, ⟨11, _⟩ => ⟨S1x32x32, .f32⟩
  | .local _ .vmem, ⟨12, _⟩ => ⟨S512x1x32, .f32⟩
  | .local _ .vmem, ⟨13, _⟩ => ⟨S512x1x32, .f32⟩
  | .local _ .vmem, ⟨14, _⟩ => ⟨S511x32x32, .bf16⟩
  | .local _ .vmem, ⟨15, _⟩ => ⟨S256x3x32, .f32⟩
  | .local _ .vmem, ⟨16, _⟩ => ⟨S256x3x512, .f32⟩
  | _, _ => ⟨S1024x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1x1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S1024x1x512 : Shape := ⟨3, ![1024, 1, 512]⟩
abbrev S512x1x1x32 : Shape := ⟨4, ![512, 1, 1, 32]⟩
abbrev S256x32x32 : Shape := ⟨3, ![256, 32, 32]⟩
abbrev S128x32x32 : Shape := ⟨3, ![128, 32, 32]⟩
abbrev S64x32x32 : Shape := ⟨3, ![64, 32, 32]⟩
abbrev S32x32x32 : Shape := ⟨3, ![32, 32, 32]⟩
abbrev S16x32x32 : Shape := ⟨3, ![16, 32, 32]⟩
abbrev S8x32x32 : Shape := ⟨3, ![8, 32, 32]⟩
abbrev S4x32x32 : Shape := ⟨3, ![4, 32, 32]⟩
abbrev S2x32x32 : Shape := ⟨3, ![2, 32, 32]⟩
abbrev S1x32x32 : Shape := ⟨3, ![1, 32, 32]⟩
abbrev S1x1 : Shape := ⟨2, ![1, 1]⟩
abbrev S512 : Shape := ⟨1, ![512]⟩
abbrev S512x1 : Shape := ⟨2, ![512, 1]⟩
abbrev S_ : Shape := ⟨0, ![]⟩
abbrev S512x1x1 : Shape := ⟨3, ![512, 1, 1]⟩
abbrev S1024x1x512x1 : Shape := ⟨4, ![1024, 1, 512, 1]⟩
abbrev S512x1x1024x1 : Shape := ⟨4, ![512, 1, 1024, 1]⟩
abbrev S512x1x1024x1x1 : Shape := ⟨5, ![512, 1, 1024, 1, 1]⟩
abbrev S512x1x1x1x32 : Shape := ⟨5, ![512, 1, 1, 1, 32]⟩
abbrev S512x1x1024x1x32 : Shape := ⟨5, ![512, 1, 1024, 1, 32]⟩
abbrev S512x1024x32 : Shape := ⟨3, ![512, 1024, 32]⟩
abbrev S256x2 : Shape := ⟨2, ![256, 2]⟩
abbrev S256x2x1 : Shape := ⟨3, ![256, 2, 1]⟩
abbrev S256x2x1024x32 : Shape := ⟨4, ![256, 2, 1024, 32]⟩
abbrev S256x1024x32 : Shape := ⟨3, ![256, 1024, 32]⟩
abbrev S256x32 : Shape := ⟨2, ![256, 32]⟩
abbrev S256x32x1 : Shape := ⟨3, ![256, 32, 1]⟩
abbrev S256x1x32x32 : Shape := ⟨4, ![256, 1, 32, 32]⟩
abbrev S256x1024x1x32 : Shape := ⟨4, ![256, 1024, 1, 32]⟩
abbrev S256x1024x32x32 : Shape := ⟨4, ![256, 1024, 32, 32]⟩
abbrev S256x1024x32x1 : Shape := ⟨4, ![256, 1024, 32, 1]⟩
abbrev S256 : Shape := ⟨1, ![256]⟩
abbrev S128x2 : Shape := ⟨2, ![128, 2]⟩
abbrev S128x2x1 : Shape := ⟨3, ![128, 2, 1]⟩
abbrev S128x2x1024x32 : Shape := ⟨4, ![128, 2, 1024, 32]⟩
abbrev S128x1024x32 : Shape := ⟨3, ![128, 1024, 32]⟩
abbrev S128x32 : Shape := ⟨2, ![128, 32]⟩
abbrev S128x32x1 : Shape := ⟨3, ![128, 32, 1]⟩
abbrev S128x1x32x32 : Shape := ⟨4, ![128, 1, 32, 32]⟩
abbrev S128x1024x1x32 : Shape := ⟨4, ![128, 1024, 1, 32]⟩
abbrev S128x1024x32x32 : Shape := ⟨4, ![128, 1024, 32, 32]⟩
abbrev S128x1024x32x1 : Shape := ⟨4, ![128, 1024, 32, 1]⟩
abbrev S128 : Shape := ⟨1, ![128]⟩
abbrev S64x2 : Shape := ⟨2, ![64, 2]⟩
abbrev S64x2x1 : Shape := ⟨3, ![64, 2, 1]⟩
abbrev S64x2x1024x32 : Shape := ⟨4, ![64, 2, 1024, 32]⟩
abbrev S64x1024x32 : Shape := ⟨3, ![64, 1024, 32]⟩
abbrev S64x32 : Shape := ⟨2, ![64, 32]⟩
abbrev S64x32x1 : Shape := ⟨3, ![64, 32, 1]⟩
abbrev S64x1x32x32 : Shape := ⟨4, ![64, 1, 32, 32]⟩
abbrev S64x1024x1x32 : Shape := ⟨4, ![64, 1024, 1, 32]⟩
abbrev S64x1024x32x32 : Shape := ⟨4, ![64, 1024, 32, 32]⟩
abbrev S64x1024x32x1 : Shape := ⟨4, ![64, 1024, 32, 1]⟩
abbrev S64 : Shape := ⟨1, ![64]⟩
abbrev S32x2 : Shape := ⟨2, ![32, 2]⟩
abbrev S32x2x1 : Shape := ⟨3, ![32, 2, 1]⟩
abbrev S32x2x1024x32 : Shape := ⟨4, ![32, 2, 1024, 32]⟩
abbrev S32x1024x32 : Shape := ⟨3, ![32, 1024, 32]⟩
abbrev S32x32 : Shape := ⟨2, ![32, 32]⟩
abbrev S32x32x1 : Shape := ⟨3, ![32, 32, 1]⟩
abbrev S32x1x32x32 : Shape := ⟨4, ![32, 1, 32, 32]⟩
abbrev S32x1024x1x32 : Shape := ⟨4, ![32, 1024, 1, 32]⟩
abbrev S32x1024x32x32 : Shape := ⟨4, ![32, 1024, 32, 32]⟩
abbrev S32x1024x32x1 : Shape := ⟨4, ![32, 1024, 32, 1]⟩
abbrev S32 : Shape := ⟨1, ![32]⟩
abbrev S16x2 : Shape := ⟨2, ![16, 2]⟩
abbrev S16x2x1 : Shape := ⟨3, ![16, 2, 1]⟩
abbrev S16x2x1024x32 : Shape := ⟨4, ![16, 2, 1024, 32]⟩
abbrev S16x1024x32 : Shape := ⟨3, ![16, 1024, 32]⟩
abbrev S16x32 : Shape := ⟨2, ![16, 32]⟩
abbrev S16x32x1 : Shape := ⟨3, ![16, 32, 1]⟩
abbrev S16x1x32x32 : Shape := ⟨4, ![16, 1, 32, 32]⟩
abbrev S16x1024x1x32 : Shape := ⟨4, ![16, 1024, 1, 32]⟩
abbrev S16x1024x32x32 : Shape := ⟨4, ![16, 1024, 32, 32]⟩
abbrev S16x1024x32x1 : Shape := ⟨4, ![16, 1024, 32, 1]⟩
abbrev S16 : Shape := ⟨1, ![16]⟩
abbrev S8x2 : Shape := ⟨2, ![8, 2]⟩
abbrev S8x2x1 : Shape := ⟨3, ![8, 2, 1]⟩
abbrev S8x2x1024x32 : Shape := ⟨4, ![8, 2, 1024, 32]⟩
abbrev S8x1024x32 : Shape := ⟨3, ![8, 1024, 32]⟩
abbrev S8x32 : Shape := ⟨2, ![8, 32]⟩
abbrev S8x32x1 : Shape := ⟨3, ![8, 32, 1]⟩
abbrev S8x1x32x32 : Shape := ⟨4, ![8, 1, 32, 32]⟩
abbrev S8x1024x1x32 : Shape := ⟨4, ![8, 1024, 1, 32]⟩
abbrev S8x1024x32x32 : Shape := ⟨4, ![8, 1024, 32, 32]⟩
abbrev S8x1024x32x1 : Shape := ⟨4, ![8, 1024, 32, 1]⟩
abbrev S8 : Shape := ⟨1, ![8]⟩
abbrev S4x2 : Shape := ⟨2, ![4, 2]⟩
abbrev S4x2x1 : Shape := ⟨3, ![4, 2, 1]⟩
abbrev S4x2x1024x32 : Shape := ⟨4, ![4, 2, 1024, 32]⟩
abbrev S4x1024x32 : Shape := ⟨3, ![4, 1024, 32]⟩
abbrev S4x32 : Shape := ⟨2, ![4, 32]⟩
abbrev S4x32x1 : Shape := ⟨3, ![4, 32, 1]⟩
abbrev S4x1x32x32 : Shape := ⟨4, ![4, 1, 32, 32]⟩
abbrev S4x1024x1x32 : Shape := ⟨4, ![4, 1024, 1, 32]⟩
abbrev S4x1024x32x32 : Shape := ⟨4, ![4, 1024, 32, 32]⟩
abbrev S4x1024x32x1 : Shape := ⟨4, ![4, 1024, 32, 1]⟩
abbrev S4 : Shape := ⟨1, ![4]⟩
abbrev S2x2 : Shape := ⟨2, ![2, 2]⟩
abbrev S2x2x1 : Shape := ⟨3, ![2, 2, 1]⟩
abbrev S2x2x1024x32 : Shape := ⟨4, ![2, 2, 1024, 32]⟩
abbrev S2x1024x32 : Shape := ⟨3, ![2, 1024, 32]⟩
abbrev S2x32 : Shape := ⟨2, ![2, 32]⟩
abbrev S2x32x1 : Shape := ⟨3, ![2, 32, 1]⟩
abbrev S2x1x32x32 : Shape := ⟨4, ![2, 1, 32, 32]⟩
abbrev S2x1024x1x32 : Shape := ⟨4, ![2, 1024, 1, 32]⟩
abbrev S2x1024x32x32 : Shape := ⟨4, ![2, 1024, 32, 32]⟩
abbrev S2x1024x32x1 : Shape := ⟨4, ![2, 1024, 32, 1]⟩
abbrev S2 : Shape := ⟨1, ![2]⟩
abbrev S1x2 : Shape := ⟨2, ![1, 2]⟩
abbrev S1x2x1 : Shape := ⟨3, ![1, 2, 1]⟩
abbrev S1x2x1024x32 : Shape := ⟨4, ![1, 2, 1024, 32]⟩
abbrev S1x1024x32 : Shape := ⟨3, ![1, 1024, 32]⟩
abbrev S1x32 : Shape := ⟨2, ![1, 32]⟩
abbrev S1x32x1 : Shape := ⟨3, ![1, 32, 1]⟩
abbrev S1x1x32x32 : Shape := ⟨4, ![1, 1, 32, 32]⟩
abbrev S1x1024x1x32 : Shape := ⟨4, ![1, 1024, 1, 32]⟩
abbrev S1x1024x32x32 : Shape := ⟨4, ![1, 1024, 32, 32]⟩
abbrev S1x1024x32x1 : Shape := ⟨4, ![1, 1024, 32, 1]⟩
abbrev S1x1x1 : Shape := ⟨3, ![1, 1, 1]⟩
abbrev S1x1x1024x32 : Shape := ⟨4, ![1, 1, 1024, 32]⟩
abbrev S1024x1x32 : Shape := ⟨3, ![1024, 1, 32]⟩

abbrev nBuf : Space → Nat
  | .hbm => 505
  | .vmem => 0
  | .smem => 0
  | _ => 0

abbrev hbmTy0_0 (i : Nat) : BufTy := match i % 128 with
  | 0 => ⟨S1024x1x512, .f32⟩
  | 1 => ⟨S512x1x1x32, .f32⟩
  | 2 => ⟨S256x32x32, .f32⟩
  | 3 => ⟨S128x32x32, .f32⟩
  | 4 => ⟨S64x32x32, .f32⟩
  | 5 => ⟨S32x32x32, .f32⟩
  | 6 => ⟨S16x32x32, .f32⟩
  | 7 => ⟨S8x32x32, .f32⟩
  | 8 => ⟨S4x32x32, .f32⟩
  | 9 => ⟨S2x32x32, .f32⟩
  | 10 => ⟨S1x32x32, .f32⟩
  | 11 => ⟨S1x1, .i32⟩
  | 12 => ⟨S512, .i32⟩
  | 13 => ⟨S512x1, .i32⟩
  | 14 => ⟨S_, .i32⟩
  | 15 => ⟨S512x1, .i32⟩
  | 16 => ⟨S512x1, .i1⟩
  | 17 => ⟨S_, .i32⟩
  | 18 => ⟨S512x1, .i32⟩
  | 19 => ⟨S512x1, .i32⟩
  | 20 => ⟨S512x1, .i32⟩
  | 21 => ⟨S512x1x1, .i32⟩
  | 22 => ⟨S1024x1x512x1, .f32⟩
  | 23 => ⟨S512x1x1024x1, .f32⟩
  | 24 => ⟨S512x1x1024x1x1, .f32⟩
  | 25 => ⟨S512x1x1x1x32, .f32⟩
  | 26 => ⟨S512x1x1024x1x32, .f32⟩
  | 27 => ⟨S512x1x1024x1x32, .f32⟩
  | 28 => ⟨S512x1x1024x1x32, .f32⟩
  | 29 => ⟨S512x1x1024x1x32, .f32⟩
  | 30 => ⟨S_, .f32⟩
  | 31 => ⟨S512x1024x32, .f32⟩
  | 32 => ⟨S_, .f32⟩
  | 33 => ⟨S512x1024x32, .f32⟩
  | 34 => ⟨S512x1024x32, .f32⟩
  | 35 => ⟨S512, .i32⟩
  | 36 => ⟨S256x2, .i32⟩
  | 37 => ⟨S_, .i32⟩
  | 38 => ⟨S256x2, .i32⟩
  | 39 => ⟨S256x2, .i1⟩
  | 40 => ⟨S_, .i32⟩
  | 41 => ⟨S256x2, .i32⟩
  | 42 => ⟨S256x2, .i32⟩
  | 43 => ⟨S256x2, .i32⟩
  | 44 => ⟨S256x2x1, .i32⟩
  | 45 => ⟨S256x2x1024x32, .f32⟩
  | 46 => ⟨S_, .f32⟩
  | 47 => ⟨S256x1024x32, .f32⟩
  | 48 => ⟨S_, .f32⟩
  | 49 => ⟨S256x32, .f32⟩
  | 50 => ⟨S_, .f32⟩
  | 51 => ⟨S256x32, .f32⟩
  | 52 => ⟨S256x32, .f32⟩
  | 53 => ⟨S256x32x1, .f32⟩
  | 54 => ⟨S256x32x32, .f32⟩
  | 55 => ⟨S256x32x32, .f32⟩
  | 56 => ⟨S256x32x32, .f32⟩
  | 57 => ⟨S_, .f32⟩
  | 58 => ⟨S256x32, .f32⟩
  | 59 => ⟨S256x32x1, .f32⟩
  | 60 => ⟨S256x32x1, .f32⟩
  | 61 => ⟨S256x32x32, .f32⟩
  | 62 => ⟨S256x32x32, .f32⟩
  | 63 => ⟨S256x1x32x32, .f32⟩
  | 64 => ⟨S256x1024x1x32, .f32⟩
  | 65 => ⟨S256x1024x32x32, .f32⟩
  | 66 => ⟨S256x1024x32x32, .f32⟩
  | 67 => ⟨S256x1024x32x32, .f32⟩
  | 68 => ⟨S_, .f32⟩
  | 69 => ⟨S256x1024x32, .f32⟩
  | 70 => ⟨S256x1024x32, .f32⟩
  | 71 => ⟨S_, .f32⟩
  | 72 => ⟨S256x1024x32, .f32⟩
  | 73 => ⟨S256x1024x32, .i1⟩
  | 74 => ⟨S_, .f32⟩
  | 75 => ⟨S_, .f32⟩
  | 76 => ⟨S256x1024x32, .f32⟩
  | 77 => ⟨S256x1024x32, .f32⟩
  | 78 => ⟨S256x1024x32x1, .f32⟩
  | 79 => ⟨S256x1024x32x32, .f32⟩
  | 80 => ⟨S256x1024x32x32, .f32⟩
  | 81 => ⟨S256x1024x32x32, .f32⟩
  | 82 => ⟨S_, .f32⟩
  | 83 => ⟨S256x1024x32, .f32⟩
  | 84 => ⟨S256x1024x32, .f32⟩
  | 85 => ⟨S256x1024x32, .f32⟩
  | 86 => ⟨S256, .i32⟩
  | 87 => ⟨S128x2, .i32⟩
  | 88 => ⟨S_, .i32⟩
  | 89 => ⟨S128x2, .i32⟩
  | 90 => ⟨S128x2, .i1⟩
  | 91 => ⟨S_, .i32⟩
  | 92 => ⟨S128x2, .i32⟩
  | 93 => ⟨S128x2, .i32⟩
  | 94 => ⟨S128x2, .i32⟩
  | 95 => ⟨S128x2x1, .i32⟩
  | 96 => ⟨S128x2x1024x32, .f32⟩
  | 97 => ⟨S_, .f32⟩
  | 98 => ⟨S128x1024x32, .f32⟩
  | 99 => ⟨S_, .f32⟩
  | 100 => ⟨S128x32, .f32⟩
  | 101 => ⟨S_, .f32⟩
  | 102 => ⟨S128x32, .f32⟩
  | 103 => ⟨S128x32, .f32⟩
  | 104 => ⟨S128x32x1, .f32⟩
  | 105 => ⟨S128x32x32, .f32⟩
  | 106 => ⟨S128x32x32, .f32⟩
  | 107 => ⟨S128x32x32, .f32⟩
  | 108 => ⟨S_, .f32⟩
  | 109 => ⟨S128x32, .f32⟩
  | 110 => ⟨S128x32x1, .f32⟩
  | 111 => ⟨S128x32x1, .f32⟩
  | 112 => ⟨S128x32x32, .f32⟩
  | 113 => ⟨S128x32x32, .f32⟩
  | 114 => ⟨S128x1x32x32, .f32⟩
  | 115 => ⟨S128x1024x1x32, .f32⟩
  | 116 => ⟨S128x1024x32x32, .f32⟩
  | 117 => ⟨S128x1024x32x32, .f32⟩
  | 118 => ⟨S128x1024x32x32, .f32⟩
  | 119 => ⟨S_, .f32⟩
  | 120 => ⟨S128x1024x32, .f32⟩
  | 121 => ⟨S128x1024x32, .f32⟩
  | 122 => ⟨S_, .f32⟩
  | 123 => ⟨S128x1024x32, .f32⟩
  | 124 => ⟨S128x1024x32, .i1⟩
  | 125 => ⟨S_, .f32⟩
  | 126 => ⟨S_, .f32⟩
  | 127 => ⟨S128x1024x32, .f32⟩
  | _ => ⟨S1024x1x512, .f32⟩

abbrev hbmTy0_1 (i : Nat) : BufTy := match i % 128 with
  | 0 => ⟨S128x1024x32, .f32⟩
  | 1 => ⟨S128x1024x32x1, .f32⟩
  | 2 => ⟨S128x1024x32x32, .f32⟩
  | 3 => ⟨S128x1024x32x32, .f32⟩
  | 4 => ⟨S128x1024x32x32, .f32⟩
  | 5 => ⟨S_, .f32⟩
  | 6 => ⟨S128x1024x32, .f32⟩
  | 7 => ⟨S128x1024x32, .f32⟩
  | 8 => ⟨S128x1024x32, .f32⟩
  | 9 => ⟨S128, .i32⟩
  | 10 => ⟨S64x2, .i32⟩
  | 11 => ⟨S_, .i32⟩
  | 12 => ⟨S64x2, .i32⟩
  | 13 => ⟨S64x2, .i1⟩
  | 14 => ⟨S_, .i32⟩
  | 15 => ⟨S64x2, .i32⟩
  | 16 => ⟨S64x2, .i32⟩
  | 17 => ⟨S64x2, .i32⟩
  | 18 => ⟨S64x2x1, .i32⟩
  | 19 => ⟨S64x2x1024x32, .f32⟩
  | 20 => ⟨S_, .f32⟩
  | 21 => ⟨S64x1024x32, .f32⟩
  | 22 => ⟨S_, .f32⟩
  | 23 => ⟨S64x32, .f32⟩
  | 24 => ⟨S_, .f32⟩
  | 25 => ⟨S64x32, .f32⟩
  | 26 => ⟨S64x32, .f32⟩
  | 27 => ⟨S64x32x1, .f32⟩
  | 28 => ⟨S64x32x32, .f32⟩
  | 29 => ⟨S64x32x32, .f32⟩
  | 30 => ⟨S64x32x32, .f32⟩
  | 31 => ⟨S_, .f32⟩
  | 32 => ⟨S64x32, .f32⟩
  | 33 => ⟨S64x32x1, .f32⟩
  | 34 => ⟨S64x32x1, .f32⟩
  | 35 => ⟨S64x32x32, .f32⟩
  | 36 => ⟨S64x32x32, .f32⟩
  | 37 => ⟨S64x1x32x32, .f32⟩
  | 38 => ⟨S64x1024x1x32, .f32⟩
  | 39 => ⟨S64x1024x32x32, .f32⟩
  | 40 => ⟨S64x1024x32x32, .f32⟩
  | 41 => ⟨S64x1024x32x32, .f32⟩
  | 42 => ⟨S_, .f32⟩
  | 43 => ⟨S64x1024x32, .f32⟩
  | 44 => ⟨S64x1024x32, .f32⟩
  | 45 => ⟨S_, .f32⟩
  | 46 => ⟨S64x1024x32, .f32⟩
  | 47 => ⟨S64x1024x32, .i1⟩
  | 48 => ⟨S_, .f32⟩
  | 49 => ⟨S_, .f32⟩
  | 50 => ⟨S64x1024x32, .f32⟩
  | 51 => ⟨S64x1024x32, .f32⟩
  | 52 => ⟨S64x1024x32x1, .f32⟩
  | 53 => ⟨S64x1024x32x32, .f32⟩
  | 54 => ⟨S64x1024x32x32, .f32⟩
  | 55 => ⟨S64x1024x32x32, .f32⟩
  | 56 => ⟨S_, .f32⟩
  | 57 => ⟨S64x1024x32, .f32⟩
  | 58 => ⟨S64x1024x32, .f32⟩
  | 59 => ⟨S64x1024x32, .f32⟩
  | 60 => ⟨S64, .i32⟩
  | 61 => ⟨S32x2, .i32⟩
  | 62 => ⟨S_, .i32⟩
  | 63 => ⟨S32x2, .i32⟩
  | 64 => ⟨S32x2, .i1⟩
  | 65 => ⟨S_, .i32⟩
  | 66 => ⟨S32x2, .i32⟩
  | 67 => ⟨S32x2, .i32⟩
  | 68 => ⟨S32x2, .i32⟩
  | 69 => ⟨S32x2x1, .i32⟩
  | 70 => ⟨S32x2x1024x32, .f32⟩
  | 71 => ⟨S_, .f32⟩
  | 72 => ⟨S32x1024x32, .f32⟩
  | 73 => ⟨S_, .f32⟩
  | 74 => ⟨S32x32, .f32⟩
  | 75 => ⟨S_, .f32⟩
  | 76 => ⟨S32x32, .f32⟩
  | 77 => ⟨S32x32, .f32⟩
  | 78 => ⟨S32x32x1, .f32⟩
  | 79 => ⟨S32x32x32, .f32⟩
  | 80 => ⟨S32x32x32, .f32⟩
  | 81 => ⟨S32x32x32, .f32⟩
  | 82 => ⟨S_, .f32⟩
  | 83 => ⟨S32x32, .f32⟩
  | 84 => ⟨S32x32x1, .f32⟩
  | 85 => ⟨S32x32x1, .f32⟩
  | 86 => ⟨S32x32x32, .f32⟩
  | 87 => ⟨S32x32x32, .f32⟩
  | 88 => ⟨S32x1x32x32, .f32⟩
  | 89 => ⟨S32x1024x1x32, .f32⟩
  | 90 => ⟨S32x1024x32x32, .f32⟩
  | 91 => ⟨S32x1024x32x32, .f32⟩
  | 92 => ⟨S32x1024x32x32, .f32⟩
  | 93 => ⟨S_, .f32⟩
  | 94 => ⟨S32x1024x32, .f32⟩
  | 95 => ⟨S32x1024x32, .f32⟩
  | 96 => ⟨S_, .f32⟩
  | 97 => ⟨S32x1024x32, .f32⟩
  | 98 => ⟨S32x1024x32, .i1⟩
  | 99 => ⟨S_, .f32⟩
  | 100 => ⟨S_, .f32⟩
  | 101 => ⟨S32x1024x32, .f32⟩
  | 102 => ⟨S32x1024x32, .f32⟩
  | 103 => ⟨S32x1024x32x1, .f32⟩
  | 104 => ⟨S32x1024x32x32, .f32⟩
  | 105 => ⟨S32x1024x32x32, .f32⟩
  | 106 => ⟨S32x1024x32x32, .f32⟩
  | 107 => ⟨S_, .f32⟩
  | 108 => ⟨S32x1024x32, .f32⟩
  | 109 => ⟨S32x1024x32, .f32⟩
  | 110 => ⟨S32x1024x32, .f32⟩
  | 111 => ⟨S32, .i32⟩
  | 112 => ⟨S16x2, .i32⟩
  | 113 => ⟨S_, .i32⟩
  | 114 => ⟨S16x2, .i32⟩
  | 115 => ⟨S16x2, .i1⟩
  | 116 => ⟨S_, .i32⟩
  | 117 => ⟨S16x2, .i32⟩
  | 118 => ⟨S16x2, .i32⟩
  | 119 => ⟨S16x2, .i32⟩
  | 120 => ⟨S16x2x1, .i32⟩
  | 121 => ⟨S16x2x1024x32, .f32⟩
  | 122 => ⟨S_, .f32⟩
  | 123 => ⟨S16x1024x32, .f32⟩
  | 124 => ⟨S_, .f32⟩
  | 125 => ⟨S16x32, .f32⟩
  | 126 => ⟨S_, .f32⟩
  | 127 => ⟨S16x32, .f32⟩
  | _ => ⟨S1024x1x512, .f32⟩

abbrev hbmTy0_2 (i : Nat) : BufTy := match i % 128 with
  | 0 => ⟨S16x32, .f32⟩
  | 1 => ⟨S16x32x1, .f32⟩
  | 2 => ⟨S16x32x32, .f32⟩
  | 3 => ⟨S16x32x32, .f32⟩
  | 4 => ⟨S16x32x32, .f32⟩
  | 5 => ⟨S_, .f32⟩
  | 6 => ⟨S16x32, .f32⟩
  | 7 => ⟨S16x32x1, .f32⟩
  | 8 => ⟨S16x32x1, .f32⟩
  | 9 => ⟨S16x32x32, .f32⟩
  | 10 => ⟨S16x32x32, .f32⟩
  | 11 => ⟨S16x1x32x32, .f32⟩
  | 12 => ⟨S16x1024x1x32, .f32⟩
  | 13 => ⟨S16x1024x32x32, .f32⟩
  | 14 => ⟨S16x1024x32x32, .f32⟩
  | 15 => ⟨S16x1024x32x32, .f32⟩
  | 16 => ⟨S_, .f32⟩
  | 17 => ⟨S16x1024x32, .f32⟩
  | 18 => ⟨S16x1024x32, .f32⟩
  | 19 => ⟨S_, .f32⟩
  | 20 => ⟨S16x1024x32, .f32⟩
  | 21 => ⟨S16x1024x32, .i1⟩
  | 22 => ⟨S_, .f32⟩
  | 23 => ⟨S_, .f32⟩
  | 24 => ⟨S16x1024x32, .f32⟩
  | 25 => ⟨S16x1024x32, .f32⟩
  | 26 => ⟨S16x1024x32x1, .f32⟩
  | 27 => ⟨S16x1024x32x32, .f32⟩
  | 28 => ⟨S16x1024x32x32, .f32⟩
  | 29 => ⟨S16x1024x32x32, .f32⟩
  | 30 => ⟨S_, .f32⟩
  | 31 => ⟨S16x1024x32, .f32⟩
  | 32 => ⟨S16x1024x32, .f32⟩
  | 33 => ⟨S16x1024x32, .f32⟩
  | 34 => ⟨S16, .i32⟩
  | 35 => ⟨S8x2, .i32⟩
  | 36 => ⟨S_, .i32⟩
  | 37 => ⟨S8x2, .i32⟩
  | 38 => ⟨S8x2, .i1⟩
  | 39 => ⟨S_, .i32⟩
  | 40 => ⟨S8x2, .i32⟩
  | 41 => ⟨S8x2, .i32⟩
  | 42 => ⟨S8x2, .i32⟩
  | 43 => ⟨S8x2x1, .i32⟩
  | 44 => ⟨S8x2x1024x32, .f32⟩
  | 45 => ⟨S_, .f32⟩
  | 46 => ⟨S8x1024x32, .f32⟩
  | 47 => ⟨S_, .f32⟩
  | 48 => ⟨S8x32, .f32⟩
  | 49 => ⟨S_, .f32⟩
  | 50 => ⟨S8x32, .f32⟩
  | 51 => ⟨S8x32, .f32⟩
  | 52 => ⟨S8x32x1, .f32⟩
  | 53 => ⟨S8x32x32, .f32⟩
  | 54 => ⟨S8x32x32, .f32⟩
  | 55 => ⟨S8x32x32, .f32⟩
  | 56 => ⟨S_, .f32⟩
  | 57 => ⟨S8x32, .f32⟩
  | 58 => ⟨S8x32x1, .f32⟩
  | 59 => ⟨S8x32x1, .f32⟩
  | 60 => ⟨S8x32x32, .f32⟩
  | 61 => ⟨S8x32x32, .f32⟩
  | 62 => ⟨S8x1x32x32, .f32⟩
  | 63 => ⟨S8x1024x1x32, .f32⟩
  | 64 => ⟨S8x1024x32x32, .f32⟩
  | 65 => ⟨S8x1024x32x32, .f32⟩
  | 66 => ⟨S8x1024x32x32, .f32⟩
  | 67 => ⟨S_, .f32⟩
  | 68 => ⟨S8x1024x32, .f32⟩
  | 69 => ⟨S8x1024x32, .f32⟩
  | 70 => ⟨S_, .f32⟩
  | 71 => ⟨S8x1024x32, .f32⟩
  | 72 => ⟨S8x1024x32, .i1⟩
  | 73 => ⟨S_, .f32⟩
  | 74 => ⟨S_, .f32⟩
  | 75 => ⟨S8x1024x32, .f32⟩
  | 76 => ⟨S8x1024x32, .f32⟩
  | 77 => ⟨S8x1024x32x1, .f32⟩
  | 78 => ⟨S8x1024x32x32, .f32⟩
  | 79 => ⟨S8x1024x32x32, .f32⟩
  | 80 => ⟨S8x1024x32x32, .f32⟩
  | 81 => ⟨S_, .f32⟩
  | 82 => ⟨S8x1024x32, .f32⟩
  | 83 => ⟨S8x1024x32, .f32⟩
  | 84 => ⟨S8x1024x32, .f32⟩
  | 85 => ⟨S8, .i32⟩
  | 86 => ⟨S4x2, .i32⟩
  | 87 => ⟨S_, .i32⟩
  | 88 => ⟨S4x2, .i32⟩
  | 89 => ⟨S4x2, .i1⟩
  | 90 => ⟨S_, .i32⟩
  | 91 => ⟨S4x2, .i32⟩
  | 92 => ⟨S4x2, .i32⟩
  | 93 => ⟨S4x2, .i32⟩
  | 94 => ⟨S4x2x1, .i32⟩
  | 95 => ⟨S4x2x1024x32, .f32⟩
  | 96 => ⟨S_, .f32⟩
  | 97 => ⟨S4x1024x32, .f32⟩
  | 98 => ⟨S_, .f32⟩
  | 99 => ⟨S4x32, .f32⟩
  | 100 => ⟨S_, .f32⟩
  | 101 => ⟨S4x32, .f32⟩
  | 102 => ⟨S4x32, .f32⟩
  | 103 => ⟨S4x32x1, .f32⟩
  | 104 => ⟨S4x32x32, .f32⟩
  | 105 => ⟨S4x32x32, .f32⟩
  | 106 => ⟨S4x32x32, .f32⟩
  | 107 => ⟨S_, .f32⟩
  | 108 => ⟨S4x32, .f32⟩
  | 109 => ⟨S4x32x1, .f32⟩
  | 110 => ⟨S4x32x1, .f32⟩
  | 111 => ⟨S4x32x32, .f32⟩
  | 112 => ⟨S4x32x32, .f32⟩
  | 113 => ⟨S4x1x32x32, .f32⟩
  | 114 => ⟨S4x1024x1x32, .f32⟩
  | 115 => ⟨S4x1024x32x32, .f32⟩
  | 116 => ⟨S4x1024x32x32, .f32⟩
  | 117 => ⟨S4x1024x32x32, .f32⟩
  | 118 => ⟨S_, .f32⟩
  | 119 => ⟨S4x1024x32, .f32⟩
  | 120 => ⟨S4x1024x32, .f32⟩
  | 121 => ⟨S_, .f32⟩
  | 122 => ⟨S4x1024x32, .f32⟩
  | 123 => ⟨S4x1024x32, .i1⟩
  | 124 => ⟨S_, .f32⟩
  | 125 => ⟨S_, .f32⟩
  | 126 => ⟨S4x1024x32, .f32⟩
  | 127 => ⟨S4x1024x32, .f32⟩
  | _ => ⟨S1024x1x512, .f32⟩

abbrev hbmTy0_3 (i : Nat) : BufTy := match i % 128 with
  | 0 => ⟨S4x1024x32x1, .f32⟩
  | 1 => ⟨S4x1024x32x32, .f32⟩
  | 2 => ⟨S4x1024x32x32, .f32⟩
  | 3 => ⟨S4x1024x32x32, .f32⟩
  | 4 => ⟨S_, .f32⟩
  | 5 => ⟨S4x1024x32, .f32⟩
  | 6 => ⟨S4x1024x32, .f32⟩
  | 7 => ⟨S4x1024x32, .f32⟩
  | 8 => ⟨S4, .i32⟩
  | 9 => ⟨S2x2, .i32⟩
  | 10 => ⟨S_, .i32⟩
  | 11 => ⟨S2x2, .i32⟩
  | 12 => ⟨S2x2, .i1⟩
  | 13 => ⟨S_, .i32⟩
  | 14 => ⟨S2x2, .i32⟩
  | 15 => ⟨S2x2, .i32⟩
  | 16 => ⟨S2x2, .i32⟩
  | 17 => ⟨S2x2x1, .i32⟩
  | 18 => ⟨S2x2x1024x32, .f32⟩
  | 19 => ⟨S_, .f32⟩
  | 20 => ⟨S2x1024x32, .f32⟩
  | 21 => ⟨S_, .f32⟩
  | 22 => ⟨S2x32, .f32⟩
  | 23 => ⟨S_, .f32⟩
  | 24 => ⟨S2x32, .f32⟩
  | 25 => ⟨S2x32, .f32⟩
  | 26 => ⟨S2x32x1, .f32⟩
  | 27 => ⟨S2x32x32, .f32⟩
  | 28 => ⟨S2x32x32, .f32⟩
  | 29 => ⟨S2x32x32, .f32⟩
  | 30 => ⟨S_, .f32⟩
  | 31 => ⟨S2x32, .f32⟩
  | 32 => ⟨S2x32x1, .f32⟩
  | 33 => ⟨S2x32x1, .f32⟩
  | 34 => ⟨S2x32x32, .f32⟩
  | 35 => ⟨S2x32x32, .f32⟩
  | 36 => ⟨S2x1x32x32, .f32⟩
  | 37 => ⟨S2x1024x1x32, .f32⟩
  | 38 => ⟨S2x1024x32x32, .f32⟩
  | 39 => ⟨S2x1024x32x32, .f32⟩
  | 40 => ⟨S2x1024x32x32, .f32⟩
  | 41 => ⟨S_, .f32⟩
  | 42 => ⟨S2x1024x32, .f32⟩
  | 43 => ⟨S2x1024x32, .f32⟩
  | 44 => ⟨S_, .f32⟩
  | 45 => ⟨S2x1024x32, .f32⟩
  | 46 => ⟨S2x1024x32, .i1⟩
  | 47 => ⟨S_, .f32⟩
  | 48 => ⟨S_, .f32⟩
  | 49 => ⟨S2x1024x32, .f32⟩
  | 50 => ⟨S2x1024x32, .f32⟩
  | 51 => ⟨S2x1024x32x1, .f32⟩
  | 52 => ⟨S2x1024x32x32, .f32⟩
  | 53 => ⟨S2x1024x32x32, .f32⟩
  | 54 => ⟨S2x1024x32x32, .f32⟩
  | 55 => ⟨S_, .f32⟩
  | 56 => ⟨S2x1024x32, .f32⟩
  | 57 => ⟨S2x1024x32, .f32⟩
  | 58 => ⟨S2x1024x32, .f32⟩
  | 59 => ⟨S2, .i32⟩
  | 60 => ⟨S1x2, .i32⟩
  | 61 => ⟨S_, .i32⟩
  | 62 => ⟨S1x2, .i32⟩
  | 63 => ⟨S1x2, .i1⟩
  | 64 => ⟨S_, .i32⟩
  | 65 => ⟨S1x2, .i32⟩
  | 66 => ⟨S1x2, .i32⟩
  | 67 => ⟨S1x2, .i32⟩
  | 68 => ⟨S1x2x1, .i32⟩
  | 69 => ⟨S1x2x1024x32, .f32⟩
  | 70 => ⟨S_, .f32⟩
  | 71 => ⟨S1x1024x32, .f32⟩
  | 72 => ⟨S_, .f32⟩
  | 73 => ⟨S1x32, .f32⟩
  | 74 => ⟨S_, .f32⟩
  | 75 => ⟨S1x32, .f32⟩
  | 76 => ⟨S1x32, .f32⟩
  | 77 => ⟨S1x32x1, .f32⟩
  | 78 => ⟨S1x32x32, .f32⟩
  | 79 => ⟨S1x32x32, .f32⟩
  | 80 => ⟨S1x32x32, .f32⟩
  | 81 => ⟨S_, .f32⟩
  | 82 => ⟨S1x32, .f32⟩
  | 83 => ⟨S1x32x1, .f32⟩
  | 84 => ⟨S1x32x1, .f32⟩
  | 85 => ⟨S1x32x32, .f32⟩
  | 86 => ⟨S1x32x32, .f32⟩
  | 87 => ⟨S1x1x32x32, .f32⟩
  | 88 => ⟨S1x1024x1x32, .f32⟩
  | 89 => ⟨S1x1024x32x32, .f32⟩
  | 90 => ⟨S1x1024x32x32, .f32⟩
  | 91 => ⟨S1x1024x32x32, .f32⟩
  | 92 => ⟨S_, .f32⟩
  | 93 => ⟨S1x1024x32, .f32⟩
  | 94 => ⟨S1x1024x32, .f32⟩
  | 95 => ⟨S_, .f32⟩
  | 96 => ⟨S1x1024x32, .f32⟩
  | 97 => ⟨S1x1024x32, .i1⟩
  | 98 => ⟨S_, .f32⟩
  | 99 => ⟨S_, .f32⟩
  | 100 => ⟨S1x1024x32, .f32⟩
  | 101 => ⟨S1x1024x32, .f32⟩
  | 102 => ⟨S1x1024x32x1, .f32⟩
  | 103 => ⟨S1x1024x32x32, .f32⟩
  | 104 => ⟨S1x1024x32x32, .f32⟩
  | 105 => ⟨S1x1024x32x32, .f32⟩
  | 106 => ⟨S_, .f32⟩
  | 107 => ⟨S1x1024x32, .f32⟩
  | 108 => ⟨S1x1024x32, .f32⟩
  | 109 => ⟨S1x1024x32, .f32⟩
  | 110 => ⟨S_, .i32⟩
  | 111 => ⟨S1x1, .i32⟩
  | 112 => ⟨S1x1, .i1⟩
  | 113 => ⟨S_, .i32⟩
  | 114 => ⟨S1x1, .i32⟩
  | 115 => ⟨S1x1, .i32⟩
  | 116 => ⟨S1x1, .i32⟩
  | 117 => ⟨S1x1x1, .i32⟩
  | 118 => ⟨S1x1x1024x32, .f32⟩
  | 119 => ⟨S1x1024x32, .f32⟩
  | 120 => ⟨S1024x1x32, .f32⟩
  | _ => ⟨S1024x1x512, .f32⟩

abbrev hbmTy (i : Nat) : BufTy := match i / 128 with
  | 0 => hbmTy0_0 i
  | 1 => hbmTy0_1 i
  | 2 => hbmTy0_2 i
  | 3 => hbmTy0_3 i
  | _ => ⟨S1024x1x512, .f32⟩

abbrev bufTy : (tb : Table) → Fin (tcTables nBuf tb) → BufTy
  | .hbm, ⟨i, _⟩ => hbmTy i
  | _, _ => ⟨S1024x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_call0_cst_0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_cst_1 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_v38 : Ref sig .tc := ⟨.hbm, 73, rfl⟩
abbrev main_cst_8 : Ref sig .tc := ⟨.hbm, 74, rfl⟩
abbrev main_call1_v0 : Ref sig .tc := ⟨.hbm, 75, rfl⟩
abbrev main_call1_v1 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_c_10 : Ref sig .tc := ⟨.hbm, 88, rfl⟩
abbrev main_v49 : Ref sig .tc := ⟨.hbm, 89, rfl⟩
abbrev main_v50 : Ref sig .tc := ⟨.hbm, 90, rfl⟩
abbrev main_c_11 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_call2_cst : Ref sig .tc := ⟨.hbm, 99, rfl⟩
abbrev main_call2_v0 : Ref sig .tc := ⟨.hbm, 100, rfl⟩
abbrev main_call2_cst_0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_cst_1 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_13 : Ref sig .tc := ⟨.hbm, 119, rfl⟩
abbrev main_v63 : Ref sig .tc := ⟨.hbm, 120, rfl⟩
abbrev main_v64 : Ref sig .tc := ⟨.hbm, 121, rfl⟩
abbrev main_cst_14 : Ref sig .tc := ⟨.hbm, 122, rfl⟩
abbrev main_v65 : Ref sig .tc := ⟨.hbm, 123, rfl⟩
abbrev main_v66 : Ref sig .tc := ⟨.hbm, 124, rfl⟩
abbrev main_cst_15 : Ref sig .tc := ⟨.hbm, 125, rfl⟩
abbrev main_call3_v0 : Ref sig .tc := ⟨.hbm, 126, rfl⟩
abbrev main_call3_v1 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_16 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_c_17 : Ref sig .tc := ⟨.hbm, 139, rfl⟩
abbrev main_v77 : Ref sig .tc := ⟨.hbm, 140, rfl⟩
abbrev main_v78 : Ref sig .tc := ⟨.hbm, 141, rfl⟩
abbrev main_c_18 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_19 : Ref sig .tc := ⟨.hbm, 148, rfl⟩
abbrev main_v84 : Ref sig .tc := ⟨.hbm, 149, rfl⟩
abbrev main_call4_cst : Ref sig .tc := ⟨.hbm, 150, rfl⟩
abbrev main_call4_v0 : Ref sig .tc := ⟨.hbm, 151, rfl⟩
abbrev main_call4_cst_0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_v6 : Ref sig .tc := ⟨.hbm, 158, rfl⟩
abbrev main_call4_cst_1 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_cst_20 : Ref sig .tc := ⟨.hbm, 170, rfl⟩
abbrev main_v91 : Ref sig .tc := ⟨.hbm, 171, rfl⟩
abbrev main_v92 : Ref sig .tc := ⟨.hbm, 172, rfl⟩
abbrev main_cst_21 : Ref sig .tc := ⟨.hbm, 173, rfl⟩
abbrev main_v93 : Ref sig .tc := ⟨.hbm, 174, rfl⟩
abbrev main_v94 : Ref sig .tc := ⟨.hbm, 175, rfl⟩
abbrev main_cst_22 : Ref sig .tc := ⟨.hbm, 176, rfl⟩
abbrev main_call5_v0 : Ref sig .tc := ⟨.hbm, 177, rfl⟩
abbrev main_call5_v1 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_cst_23 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_c_24 : Ref sig .tc := ⟨.hbm, 190, rfl⟩
abbrev main_v105 : Ref sig .tc := ⟨.hbm, 191, rfl⟩
abbrev main_v106 : Ref sig .tc := ⟨.hbm, 192, rfl⟩
abbrev main_c_25 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_cst_26 : Ref sig .tc := ⟨.hbm, 199, rfl⟩
abbrev main_v112 : Ref sig .tc := ⟨.hbm, 200, rfl⟩
abbrev main_call6_cst : Ref sig .tc := ⟨.hbm, 201, rfl⟩
abbrev main_call6_v0 : Ref sig .tc := ⟨.hbm, 202, rfl⟩
abbrev main_call6_cst_0 : Ref sig .tc := ⟨.hbm, 203, rfl⟩
abbrev main_call6_v1 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_call6_v5 : Ref sig .tc := ⟨.hbm, 208, rfl⟩
abbrev main_call6_v6 : Ref sig .tc := ⟨.hbm, 209, rfl⟩
abbrev main_call6_cst_1 : Ref sig .tc := ⟨.hbm, 210, rfl⟩
abbrev main_call6_v7 : Ref sig .tc := ⟨.hbm, 211, rfl⟩
abbrev main_call6_v8 : Ref sig .tc := ⟨.hbm, 212, rfl⟩
abbrev main_call6_v9 : Ref sig .tc := ⟨.hbm, 213, rfl⟩
abbrev main_call6_v10 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_cst_27 : Ref sig .tc := ⟨.hbm, 221, rfl⟩
abbrev main_v119 : Ref sig .tc := ⟨.hbm, 222, rfl⟩
abbrev main_v120 : Ref sig .tc := ⟨.hbm, 223, rfl⟩
abbrev main_cst_28 : Ref sig .tc := ⟨.hbm, 224, rfl⟩
abbrev main_v121 : Ref sig .tc := ⟨.hbm, 225, rfl⟩
abbrev main_v122 : Ref sig .tc := ⟨.hbm, 226, rfl⟩
abbrev main_cst_29 : Ref sig .tc := ⟨.hbm, 227, rfl⟩
abbrev main_call7_v0 : Ref sig .tc := ⟨.hbm, 228, rfl⟩
abbrev main_call7_v1 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_cst_30 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_c_31 : Ref sig .tc := ⟨.hbm, 241, rfl⟩
abbrev main_v133 : Ref sig .tc := ⟨.hbm, 242, rfl⟩
abbrev main_v134 : Ref sig .tc := ⟨.hbm, 243, rfl⟩
abbrev main_c_32 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_cst_33 : Ref sig .tc := ⟨.hbm, 250, rfl⟩
abbrev main_v140 : Ref sig .tc := ⟨.hbm, 251, rfl⟩
abbrev main_call8_cst : Ref sig .tc := ⟨.hbm, 252, rfl⟩
abbrev main_call8_v0 : Ref sig .tc := ⟨.hbm, 253, rfl⟩
abbrev main_call8_cst_0 : Ref sig .tc := ⟨.hbm, 254, rfl⟩
abbrev main_call8_v1 : Ref sig .tc := ⟨.hbm, 255, rfl⟩
abbrev main_call8_v2 : Ref sig .tc := ⟨.hbm, 256, rfl⟩
abbrev main_call8_v3 : Ref sig .tc := ⟨.hbm, 257, rfl⟩
abbrev main_call8_v4 : Ref sig .tc := ⟨.hbm, 258, rfl⟩
abbrev main_call8_v5 : Ref sig .tc := ⟨.hbm, 259, rfl⟩
abbrev main_call8_v6 : Ref sig .tc := ⟨.hbm, 260, rfl⟩
abbrev main_call8_cst_1 : Ref sig .tc := ⟨.hbm, 261, rfl⟩
abbrev main_call8_v7 : Ref sig .tc := ⟨.hbm, 262, rfl⟩
abbrev main_call8_v8 : Ref sig .tc := ⟨.hbm, 263, rfl⟩
abbrev main_call8_v9 : Ref sig .tc := ⟨.hbm, 264, rfl⟩
abbrev main_call8_v10 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_cst_34 : Ref sig .tc := ⟨.hbm, 272, rfl⟩
abbrev main_v147 : Ref sig .tc := ⟨.hbm, 273, rfl⟩
abbrev main_v148 : Ref sig .tc := ⟨.hbm, 274, rfl⟩
abbrev main_cst_35 : Ref sig .tc := ⟨.hbm, 275, rfl⟩
abbrev main_v149 : Ref sig .tc := ⟨.hbm, 276, rfl⟩
abbrev main_v150 : Ref sig .tc := ⟨.hbm, 277, rfl⟩
abbrev main_cst_36 : Ref sig .tc := ⟨.hbm, 278, rfl⟩
abbrev main_call9_v0 : Ref sig .tc := ⟨.hbm, 279, rfl⟩
abbrev main_call9_v1 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_v155 : Ref sig .tc := ⟨.hbm, 285, rfl⟩
abbrev main_cst_37 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_c_38 : Ref sig .tc := ⟨.hbm, 292, rfl⟩
abbrev main_v161 : Ref sig .tc := ⟨.hbm, 293, rfl⟩
abbrev main_v162 : Ref sig .tc := ⟨.hbm, 294, rfl⟩
abbrev main_c_39 : Ref sig .tc := ⟨.hbm, 295, rfl⟩
abbrev main_v163 : Ref sig .tc := ⟨.hbm, 296, rfl⟩
abbrev main_v164 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_cst_40 : Ref sig .tc := ⟨.hbm, 301, rfl⟩
abbrev main_v168 : Ref sig .tc := ⟨.hbm, 302, rfl⟩
abbrev main_call10_cst : Ref sig .tc := ⟨.hbm, 303, rfl⟩
abbrev main_call10_v0 : Ref sig .tc := ⟨.hbm, 304, rfl⟩
abbrev main_call10_cst_0 : Ref sig .tc := ⟨.hbm, 305, rfl⟩
abbrev main_call10_v1 : Ref sig .tc := ⟨.hbm, 306, rfl⟩
abbrev main_call10_v2 : Ref sig .tc := ⟨.hbm, 307, rfl⟩
abbrev main_call10_v3 : Ref sig .tc := ⟨.hbm, 308, rfl⟩
abbrev main_call10_v4 : Ref sig .tc := ⟨.hbm, 309, rfl⟩
abbrev main_call10_v5 : Ref sig .tc := ⟨.hbm, 310, rfl⟩
abbrev main_call10_v6 : Ref sig .tc := ⟨.hbm, 311, rfl⟩
abbrev main_call10_cst_1 : Ref sig .tc := ⟨.hbm, 312, rfl⟩
abbrev main_call10_v7 : Ref sig .tc := ⟨.hbm, 313, rfl⟩
abbrev main_call10_v8 : Ref sig .tc := ⟨.hbm, 314, rfl⟩
abbrev main_call10_v9 : Ref sig .tc := ⟨.hbm, 315, rfl⟩
abbrev main_call10_v10 : Ref sig .tc := ⟨.hbm, 316, rfl⟩
abbrev main_v169 : Ref sig .tc := ⟨.hbm, 317, rfl⟩
abbrev main_v170 : Ref sig .tc := ⟨.hbm, 318, rfl⟩
abbrev main_v171 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩
abbrev main_cst_41 : Ref sig .tc := ⟨.hbm, 323, rfl⟩
abbrev main_v175 : Ref sig .tc := ⟨.hbm, 324, rfl⟩
abbrev main_v176 : Ref sig .tc := ⟨.hbm, 325, rfl⟩
abbrev main_cst_42 : Ref sig .tc := ⟨.hbm, 326, rfl⟩
abbrev main_v177 : Ref sig .tc := ⟨.hbm, 327, rfl⟩
abbrev main_v178 : Ref sig .tc := ⟨.hbm, 328, rfl⟩
abbrev main_cst_43 : Ref sig .tc := ⟨.hbm, 329, rfl⟩
abbrev main_call11_v0 : Ref sig .tc := ⟨.hbm, 330, rfl⟩
abbrev main_call11_v1 : Ref sig .tc := ⟨.hbm, 331, rfl⟩
abbrev main_v179 : Ref sig .tc := ⟨.hbm, 332, rfl⟩
abbrev main_v180 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_cst_44 : Ref sig .tc := ⟨.hbm, 337, rfl⟩
abbrev main_v184 : Ref sig .tc := ⟨.hbm, 338, rfl⟩
abbrev main_v185 : Ref sig .tc := ⟨.hbm, 339, rfl⟩
abbrev main_v186 : Ref sig .tc := ⟨.hbm, 340, rfl⟩
abbrev main_v187 : Ref sig .tc := ⟨.hbm, 341, rfl⟩
abbrev main_v188 : Ref sig .tc := ⟨.hbm, 342, rfl⟩
abbrev main_c_45 : Ref sig .tc := ⟨.hbm, 343, rfl⟩
abbrev main_v189 : Ref sig .tc := ⟨.hbm, 344, rfl⟩
abbrev main_v190 : Ref sig .tc := ⟨.hbm, 345, rfl⟩
abbrev main_c_46 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_v194 : Ref sig .tc := ⟨.hbm, 350, rfl⟩
abbrev main_v195 : Ref sig .tc := ⟨.hbm, 351, rfl⟩
abbrev main_cst_47 : Ref sig .tc := ⟨.hbm, 352, rfl⟩
abbrev main_v196 : Ref sig .tc := ⟨.hbm, 353, rfl⟩
abbrev main_call12_cst : Ref sig .tc := ⟨.hbm, 354, rfl⟩
abbrev main_call12_v0 : Ref sig .tc := ⟨.hbm, 355, rfl⟩
abbrev main_call12_cst_0 : Ref sig .tc := ⟨.hbm, 356, rfl⟩
abbrev main_call12_v1 : Ref sig .tc := ⟨.hbm, 357, rfl⟩
abbrev main_call12_v2 : Ref sig .tc := ⟨.hbm, 358, rfl⟩
abbrev main_call12_v3 : Ref sig .tc := ⟨.hbm, 359, rfl⟩
abbrev main_call12_v4 : Ref sig .tc := ⟨.hbm, 360, rfl⟩
abbrev main_call12_v5 : Ref sig .tc := ⟨.hbm, 361, rfl⟩
abbrev main_call12_v6 : Ref sig .tc := ⟨.hbm, 362, rfl⟩
abbrev main_call12_cst_1 : Ref sig .tc := ⟨.hbm, 363, rfl⟩
abbrev main_call12_v7 : Ref sig .tc := ⟨.hbm, 364, rfl⟩
abbrev main_call12_v8 : Ref sig .tc := ⟨.hbm, 365, rfl⟩
abbrev main_call12_v9 : Ref sig .tc := ⟨.hbm, 366, rfl⟩
abbrev main_call12_v10 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_v200 : Ref sig .tc := ⟨.hbm, 371, rfl⟩
abbrev main_v201 : Ref sig .tc := ⟨.hbm, 372, rfl⟩
abbrev main_v202 : Ref sig .tc := ⟨.hbm, 373, rfl⟩
abbrev main_cst_48 : Ref sig .tc := ⟨.hbm, 374, rfl⟩
abbrev main_v203 : Ref sig .tc := ⟨.hbm, 375, rfl⟩
abbrev main_v204 : Ref sig .tc := ⟨.hbm, 376, rfl⟩
abbrev main_cst_49 : Ref sig .tc := ⟨.hbm, 377, rfl⟩
abbrev main_v205 : Ref sig .tc := ⟨.hbm, 378, rfl⟩
abbrev main_v206 : Ref sig .tc := ⟨.hbm, 379, rfl⟩
abbrev main_cst_50 : Ref sig .tc := ⟨.hbm, 380, rfl⟩
abbrev main_call13_v0 : Ref sig .tc := ⟨.hbm, 381, rfl⟩
abbrev main_call13_v1 : Ref sig .tc := ⟨.hbm, 382, rfl⟩
abbrev main_v207 : Ref sig .tc := ⟨.hbm, 383, rfl⟩
abbrev main_v208 : Ref sig .tc := ⟨.hbm, 384, rfl⟩
abbrev main_v209 : Ref sig .tc := ⟨.hbm, 385, rfl⟩
abbrev main_v210 : Ref sig .tc := ⟨.hbm, 386, rfl⟩
abbrev main_v211 : Ref sig .tc := ⟨.hbm, 387, rfl⟩
abbrev main_cst_51 : Ref sig .tc := ⟨.hbm, 388, rfl⟩
abbrev main_v212 : Ref sig .tc := ⟨.hbm, 389, rfl⟩
abbrev main_v213 : Ref sig .tc := ⟨.hbm, 390, rfl⟩
abbrev main_v214 : Ref sig .tc := ⟨.hbm, 391, rfl⟩
abbrev main_v215 : Ref sig .tc := ⟨.hbm, 392, rfl⟩
abbrev main_v216 : Ref sig .tc := ⟨.hbm, 393, rfl⟩
abbrev main_c_52 : Ref sig .tc := ⟨.hbm, 394, rfl⟩
abbrev main_v217 : Ref sig .tc := ⟨.hbm, 395, rfl⟩
abbrev main_v218 : Ref sig .tc := ⟨.hbm, 396, rfl⟩
abbrev main_c_53 : Ref sig .tc := ⟨.hbm, 397, rfl⟩
abbrev main_v219 : Ref sig .tc := ⟨.hbm, 398, rfl⟩
abbrev main_v220 : Ref sig .tc := ⟨.hbm, 399, rfl⟩
abbrev main_v221 : Ref sig .tc := ⟨.hbm, 400, rfl⟩
abbrev main_v222 : Ref sig .tc := ⟨.hbm, 401, rfl⟩
abbrev main_v223 : Ref sig .tc := ⟨.hbm, 402, rfl⟩
abbrev main_cst_54 : Ref sig .tc := ⟨.hbm, 403, rfl⟩
abbrev main_v224 : Ref sig .tc := ⟨.hbm, 404, rfl⟩
abbrev main_call14_cst : Ref sig .tc := ⟨.hbm, 405, rfl⟩
abbrev main_call14_v0 : Ref sig .tc := ⟨.hbm, 406, rfl⟩
abbrev main_call14_cst_0 : Ref sig .tc := ⟨.hbm, 407, rfl⟩
abbrev main_call14_v1 : Ref sig .tc := ⟨.hbm, 408, rfl⟩
abbrev main_call14_v2 : Ref sig .tc := ⟨.hbm, 409, rfl⟩
abbrev main_call14_v3 : Ref sig .tc := ⟨.hbm, 410, rfl⟩
abbrev main_call14_v4 : Ref sig .tc := ⟨.hbm, 411, rfl⟩
abbrev main_call14_v5 : Ref sig .tc := ⟨.hbm, 412, rfl⟩
abbrev main_call14_v6 : Ref sig .tc := ⟨.hbm, 413, rfl⟩
abbrev main_call14_cst_1 : Ref sig .tc := ⟨.hbm, 414, rfl⟩
abbrev main_call14_v7 : Ref sig .tc := ⟨.hbm, 415, rfl⟩
abbrev main_call14_v8 : Ref sig .tc := ⟨.hbm, 416, rfl⟩
abbrev main_call14_v9 : Ref sig .tc := ⟨.hbm, 417, rfl⟩
abbrev main_call14_v10 : Ref sig .tc := ⟨.hbm, 418, rfl⟩
abbrev main_v225 : Ref sig .tc := ⟨.hbm, 419, rfl⟩
abbrev main_v226 : Ref sig .tc := ⟨.hbm, 420, rfl⟩
abbrev main_v227 : Ref sig .tc := ⟨.hbm, 421, rfl⟩
abbrev main_v228 : Ref sig .tc := ⟨.hbm, 422, rfl⟩
abbrev main_v229 : Ref sig .tc := ⟨.hbm, 423, rfl⟩
abbrev main_v230 : Ref sig .tc := ⟨.hbm, 424, rfl⟩
abbrev main_cst_55 : Ref sig .tc := ⟨.hbm, 425, rfl⟩
abbrev main_v231 : Ref sig .tc := ⟨.hbm, 426, rfl⟩
abbrev main_v232 : Ref sig .tc := ⟨.hbm, 427, rfl⟩
abbrev main_cst_56 : Ref sig .tc := ⟨.hbm, 428, rfl⟩
abbrev main_v233 : Ref sig .tc := ⟨.hbm, 429, rfl⟩
abbrev main_v234 : Ref sig .tc := ⟨.hbm, 430, rfl⟩
abbrev main_cst_57 : Ref sig .tc := ⟨.hbm, 431, rfl⟩
abbrev main_call15_v0 : Ref sig .tc := ⟨.hbm, 432, rfl⟩
abbrev main_call15_v1 : Ref sig .tc := ⟨.hbm, 433, rfl⟩
abbrev main_v235 : Ref sig .tc := ⟨.hbm, 434, rfl⟩
abbrev main_v236 : Ref sig .tc := ⟨.hbm, 435, rfl⟩
abbrev main_v237 : Ref sig .tc := ⟨.hbm, 436, rfl⟩
abbrev main_v238 : Ref sig .tc := ⟨.hbm, 437, rfl⟩
abbrev main_v239 : Ref sig .tc := ⟨.hbm, 438, rfl⟩
abbrev main_cst_58 : Ref sig .tc := ⟨.hbm, 439, rfl⟩
abbrev main_v240 : Ref sig .tc := ⟨.hbm, 440, rfl⟩
abbrev main_v241 : Ref sig .tc := ⟨.hbm, 441, rfl⟩
abbrev main_v242 : Ref sig .tc := ⟨.hbm, 442, rfl⟩
abbrev main_v243 : Ref sig .tc := ⟨.hbm, 443, rfl⟩
abbrev main_v244 : Ref sig .tc := ⟨.hbm, 444, rfl⟩
abbrev main_c_59 : Ref sig .tc := ⟨.hbm, 445, rfl⟩
abbrev main_v245 : Ref sig .tc := ⟨.hbm, 446, rfl⟩
abbrev main_v246 : Ref sig .tc := ⟨.hbm, 447, rfl⟩
abbrev main_c_60 : Ref sig .tc := ⟨.hbm, 448, rfl⟩
abbrev main_v247 : Ref sig .tc := ⟨.hbm, 449, rfl⟩
abbrev main_v248 : Ref sig .tc := ⟨.hbm, 450, rfl⟩
abbrev main_v249 : Ref sig .tc := ⟨.hbm, 451, rfl⟩
abbrev main_v250 : Ref sig .tc := ⟨.hbm, 452, rfl⟩
abbrev main_v251 : Ref sig .tc := ⟨.hbm, 453, rfl⟩
abbrev main_cst_61 : Ref sig .tc := ⟨.hbm, 454, rfl⟩
abbrev main_v252 : Ref sig .tc := ⟨.hbm, 455, rfl⟩
abbrev main_call16_cst : Ref sig .tc := ⟨.hbm, 456, rfl⟩
abbrev main_call16_v0 : Ref sig .tc := ⟨.hbm, 457, rfl⟩
abbrev main_call16_cst_0 : Ref sig .tc := ⟨.hbm, 458, rfl⟩
abbrev main_call16_v1 : Ref sig .tc := ⟨.hbm, 459, rfl⟩
abbrev main_call16_v2 : Ref sig .tc := ⟨.hbm, 460, rfl⟩
abbrev main_call16_v3 : Ref sig .tc := ⟨.hbm, 461, rfl⟩
abbrev main_call16_v4 : Ref sig .tc := ⟨.hbm, 462, rfl⟩
abbrev main_call16_v5 : Ref sig .tc := ⟨.hbm, 463, rfl⟩
abbrev main_call16_v6 : Ref sig .tc := ⟨.hbm, 464, rfl⟩
abbrev main_call16_cst_1 : Ref sig .tc := ⟨.hbm, 465, rfl⟩
abbrev main_call16_v7 : Ref sig .tc := ⟨.hbm, 466, rfl⟩
abbrev main_call16_v8 : Ref sig .tc := ⟨.hbm, 467, rfl⟩
abbrev main_call16_v9 : Ref sig .tc := ⟨.hbm, 468, rfl⟩
abbrev main_call16_v10 : Ref sig .tc := ⟨.hbm, 469, rfl⟩
abbrev main_v253 : Ref sig .tc := ⟨.hbm, 470, rfl⟩
abbrev main_v254 : Ref sig .tc := ⟨.hbm, 471, rfl⟩
abbrev main_v255 : Ref sig .tc := ⟨.hbm, 472, rfl⟩
abbrev main_v256 : Ref sig .tc := ⟨.hbm, 473, rfl⟩
abbrev main_v257 : Ref sig .tc := ⟨.hbm, 474, rfl⟩
abbrev main_v258 : Ref sig .tc := ⟨.hbm, 475, rfl⟩
abbrev main_cst_62 : Ref sig .tc := ⟨.hbm, 476, rfl⟩
abbrev main_v259 : Ref sig .tc := ⟨.hbm, 477, rfl⟩
abbrev main_v260 : Ref sig .tc := ⟨.hbm, 478, rfl⟩
abbrev main_cst_63 : Ref sig .tc := ⟨.hbm, 479, rfl⟩
abbrev main_v261 : Ref sig .tc := ⟨.hbm, 480, rfl⟩
abbrev main_v262 : Ref sig .tc := ⟨.hbm, 481, rfl⟩
abbrev main_cst_64 : Ref sig .tc := ⟨.hbm, 482, rfl⟩
abbrev main_call17_v0 : Ref sig .tc := ⟨.hbm, 483, rfl⟩
abbrev main_call17_v1 : Ref sig .tc := ⟨.hbm, 484, rfl⟩
abbrev main_v263 : Ref sig .tc := ⟨.hbm, 485, rfl⟩
abbrev main_v264 : Ref sig .tc := ⟨.hbm, 486, rfl⟩
abbrev main_v265 : Ref sig .tc := ⟨.hbm, 487, rfl⟩
abbrev main_v266 : Ref sig .tc := ⟨.hbm, 488, rfl⟩
abbrev main_v267 : Ref sig .tc := ⟨.hbm, 489, rfl⟩
abbrev main_cst_65 : Ref sig .tc := ⟨.hbm, 490, rfl⟩
abbrev main_v268 : Ref sig .tc := ⟨.hbm, 491, rfl⟩
abbrev main_v269 : Ref sig .tc := ⟨.hbm, 492, rfl⟩
abbrev main_v270 : Ref sig .tc := ⟨.hbm, 493, rfl⟩
abbrev main_c_66 : Ref sig .tc := ⟨.hbm, 494, rfl⟩
abbrev main_v271 : Ref sig .tc := ⟨.hbm, 495, rfl⟩
abbrev main_v272 : Ref sig .tc := ⟨.hbm, 496, rfl⟩
abbrev main_c_67 : Ref sig .tc := ⟨.hbm, 497, rfl⟩
abbrev main_v273 : Ref sig .tc := ⟨.hbm, 498, rfl⟩
abbrev main_v274 : Ref sig .tc := ⟨.hbm, 499, rfl⟩
abbrev main_v275 : Ref sig .tc := ⟨.hbm, 500, rfl⟩
abbrev main_v276 : Ref sig .tc := ⟨.hbm, 501, rfl⟩
abbrev main_v277 : Ref sig .tc := ⟨.hbm, 502, rfl⟩
abbrev main_v278 : Ref sig .tc := ⟨.hbm, 503, rfl⟩
abbrev main_v279 : Ref sig .tc := ⟨.hbm, 504, rfl⟩

abbrev nD : Nat := 1
abbrev τ : Topo := Topo.v7x

variable {F : FTy → Type} [FloatOps F]
-- ==== Proof.Scalars.lean ====
module

public import Idealize.ShloMosaic.PureOps.Ideal

/-!
# The extended-real arithmetic of one circuit layer

Everything here is about finitely many extended reals: no array and no program occurs.  A row of
log-likelihoods `C` is carried by the kernel as a shift `m` and a row of nonnegative reals `s` with
`C k = m + log (s k)`; this file shows that the base layer, the product of two folds and the mixture
of a fold by softmax weights all keep that representation.
-/

@[expose] public section

noncomputable section

namespace Circuit

open Idealize.ShloMosaic

variable {n : Nat}

/-- A nonnegative extended real below `⊤`. -/
def Fine (x : EReal) : Prop := 0 ≤ x ∧ x < ⊤

/-- A nonnegative extended real below `⊤` is a nonnegative real. -/
theorem Fine.real {x : EReal} (h : Fine x) : ∃ r : ℝ, 0 ≤ r ∧ x = (r : EReal) := by
  obtain ⟨h0, h1⟩ := h
  lift x to ℝ using ⟨h1.ne, (lt_of_lt_of_le EReal.bot_lt_zero h0).ne'⟩
  exact ⟨x, by exact_mod_cast h0, rfl⟩

/-- A nonnegative real is fine. -/
theorem fine_coe {r : ℝ} (h : 0 ≤ r) : Fine (r : EReal) :=
  ⟨by exact_mod_cast h, EReal.coe_lt_top r⟩

/-- A row of nonnegative extended reals below `⊤` is a row of nonnegative reals. -/
theorem fine_row {s : Fin n → EReal} (h : ∀ k, Fine (s k)) :
    ∃ r : Fin n → ℝ, (∀ k, 0 ≤ r k) ∧ s = fun k => (r k : EReal) := by
  choose r hr hs using fun k => (h k).real
  exact ⟨r, hr, funext hs⟩

/-- Zero, products and finite sums of fine numbers are fine. -/
theorem Fine.mul {x y : EReal} (hx : Fine x) (hy : Fine y) : Fine (x * y) := by
  obtain ⟨r, hr, rfl⟩ := hx.real
  obtain ⟨q, hq, rfl⟩ := hy.real
  rw [← EReal.coe_mul]
  exact fine_coe (mul_nonneg hr hq)

/-- The sum of a row of reals, taken in the extended reals. -/
theorem sum_coe (r : Fin n → ℝ) : ∑ k, (r k : EReal) = ((∑ k, r k : ℝ) : EReal) := by
  induction (Finset.univ : Finset (Fin n)) using Finset.induction_on with
  | empty => simp
  | insert a t ha ih => rw [Finset.sum_insert ha, Finset.sum_insert ha, ih, EReal.coe_add]

/-- A finite sum of fine numbers is fine. -/
theorem Fine.sum {s : Fin n → EReal} (h : ∀ k, Fine (s k)) : Fine (∑ k, s k) := by
  obtain ⟨r, hr, rfl⟩ := fine_row h
  rw [sum_coe]
  exact fine_coe (Finset.sum_nonneg fun k _ => hr k)

/-- The logarithm of a positive real. -/
theorem log_pos {r : ℝ} (h : 0 < r) : Ideal.log (r : EReal) = (Real.log r : EReal) := by
  rw [Ideal.log_coe, if_neg (not_le.2 h)]

/-- The logarithm of zero. -/
theorem log_zero : Ideal.log 0 = ⊥ := by
  rw [← EReal.coe_zero, Ideal.log_coe, if_pos le_rfl]

/-- The logarithm of a fine number is not `⊤`. -/
theorem log_ne_top {x : EReal} (h : Fine x) : Ideal.log x ≠ ⊤ := by
  obtain ⟨r, -, rfl⟩ := h.real
  rw [Ideal.log_coe]
  split
  · exact bot_ne_top
  · exact EReal.coe_ne_top _

/-- The logarithm turns a product of fine numbers into a sum. -/
theorem log_mul {x y : EReal} (hx : Fine x) (hy : Fine y) :
    Ideal.log (x * y) = Ideal.log x + Ideal.log y := by
  obtain ⟨r, hr, rfl⟩ := hx.real
  obtain ⟨q, hq, rfl⟩ := hy.real
  rcases hr.eq_or_lt with rfl | hr
  · rw [EReal.coe_zero, zero_mul, log_zero, EReal.bot_add]
  rcases hq.eq_or_lt with rfl | hq
  · rw [EReal.coe_zero, mul_zero, log_zero, EReal.add_bot]
  rw [← EReal.coe_mul, log_pos hr, log_pos hq, log_pos (mul_pos hr hq),
    Real.log_mul hr.ne' hq.ne', EReal.coe_add]

/-- The exponential undone by the logarithm. -/
theorem log_exp (x : EReal) : Ideal.log (Ideal.exp x) = x := by
  induction x with
  | bot => exact log_zero
  | top => rfl
  | coe r => rw [Ideal.exp_coe, log_pos (Real.exp_pos r), Real.log_exp]

/-- The exponential of anything but `⊤` is fine. -/
theorem fine_exp {x : EReal} (h : x ≠ ⊤) : Fine (Ideal.exp x) := by
  induction x with
  | bot => exact ⟨le_rfl, EReal.zero_lt_top⟩
  | top => exact absurd rfl h
  | coe r => exact fine_coe (Real.exp_pos r).le

/-- The exponential is nonnegative. -/
theorem exp_nonneg (x : EReal) : 0 ≤ Ideal.exp x := by
  induction x with
  | bot => exact le_rfl
  | top => exact le_top
  | coe r => exact (fine_coe (Real.exp_pos r).le).1

/-- Division of one by a positive real. -/
theorem one_div {r : ℝ} (h : r ≠ 0) : Ideal.div 1 (r : EReal) = ((1 / r : ℝ) : EReal) := by
  rw [Ideal.div_coe h, one_mul]

/-! ## Rows -/

/-- The largest entry of a row, `⊥` for the empty row. -/
def rowMax (f : Fin n → EReal) : EReal := Finset.univ.fold max ⊥ f

theorem rowMax_eq_sup (f : Fin n → EReal) : rowMax f = Finset.univ.sup f := rfl

/-- Every entry is below the largest one. -/
theorem le_rowMax (f : Fin n → EReal) (k : Fin n) : f k ≤ rowMax f :=
  Finset.le_sup (f := f) (Finset.mem_univ k)

/-- The largest entry of a nonempty row is one of its entries. -/
theorem rowMax_mem (f : Fin n → EReal) (k : Fin n) : ∃ j, rowMax f = f j := by
  obtain ⟨j, -, hj⟩ := Finset.exists_mem_eq_sup Finset.univ ⟨k, Finset.mem_univ k⟩ f
  exact ⟨j, hj⟩

/-- A nonempty row's largest entry avoids `⊤` when every entry does. -/
theorem rowMax_ne_top {f : Fin n → EReal} (k : Fin n) (h : ∀ j, f j ≠ ⊤) : rowMax f ≠ ⊤ := by
  obtain ⟨j, hj⟩ := rowMax_mem f k
  rw [hj]
  exact h j

/-- `log_softmax` of a row, as it is computed: shifted by the largest entry. -/
def logSoftmax (f : Fin n → EReal) (k : Fin n) : EReal :=
  (f k - rowMax f) - Ideal.log (∑ j, Ideal.exp (f j - rowMax f))

/-- The amount by which `logsumexp` shifts a row: its largest entry where that is finite, else 0. -/
def shift (f : Fin n → EReal) : EReal := if max (rowMax f) (-rowMax f) < ⊤ then rowMax f else 0

/-- `logsumexp` of a row, as it is computed: shifted by the largest entry where that is finite. -/
def logSumExp (f : Fin n → EReal) : EReal :=
  Ideal.log (∑ k, Ideal.exp (f k - shift f)) + shift f

/-- The kernel's softmax weights of a row. -/
def weight (f : Fin n → EReal) (k : Fin n) : EReal :=
  Ideal.exp (f k) * Ideal.div 1 (∑ j, Ideal.exp (f j))

/-- One mixture layer of the reference: `logsumexp` over `k` of `log_softmax` plus log-likelihood. -/
def mixture (θ : Fin n → EReal) (C : Fin n → EReal) : EReal :=
  logSumExp fun k => logSoftmax θ k + C k

/-- The row `C` is carried as the shift `m` and the fine numbers `s`: `C k = m + log (s k)`. -/
structure Carries (C : Fin n → EReal) (m : EReal) (s : Fin n → EReal) : Prop where
  ne_top : m ≠ ⊤
  fine : ∀ k, Fine (s k)
  eq : ∀ k, C k = m + Ideal.log (s k)

/-! ## The weights -/

/-- Subtracting `⊥` or `⊤`, and `log`'s and `exp`'s corners, on a row with a largest entry that is
    a real: every entry is a real or `⊥`. -/
theorem entry_cases {f : Fin n → EReal} {M : ℝ} (hM : rowMax f = (M : EReal)) (k : Fin n) :
    f k = ⊥ ∨ ∃ r : ℝ, f k = (r : EReal) := by
  have h := le_rowMax f k
  rw [hM] at h
  generalize f k = x at h
  induction x with
  | bot => exact .inl rfl
  | top => exact absurd h (not_le.2 (EReal.coe_lt_top M))
  | coe r => exact .inr ⟨r, rfl⟩

/-- Shifting the argument of the exponential by a real, where the argument is not `⊤`. -/
theorem exp_sub_coe {x : EReal} (hx : x ≠ ⊤) (M : ℝ) :
    Ideal.exp (x - (M : EReal)) = Ideal.exp x * ((Real.exp (-M) : ℝ) : EReal) := by
  induction x with
  | bot => rw [EReal.bot_sub, Ideal.exp_bot, zero_mul]
  | top => exact absurd rfl hx
  | coe r => rw [← EReal.coe_sub, Ideal.exp_coe, Ideal.exp_coe, ← EReal.coe_mul, ← Real.exp_add,
      sub_eq_add_neg]

/-- The weights are fine, and their logarithms are `log_softmax`. -/
theorem weight_spec (f : Fin n → EReal) (k : Fin n) :
    Fine (weight f k) ∧ logSoftmax f k = Ideal.log (weight f k) := by
  obtain ⟨i, hi⟩ := rowMax_mem f k
  unfold weight logSoftmax
  generalize hM : rowMax f = M at hi
  have hle : ∀ j, f j ≤ M := fun j => hM ▸ le_rowMax f j
  induction M with
  | bot =>
    have hb : ∀ j, f j = ⊥ := fun j => le_bot_iff.1 (hle j)
    have h0 : Ideal.exp (f k) = 0 := by rw [hb, Ideal.exp_bot]
    rw [h0, zero_mul, log_zero, hb, EReal.bot_sub, EReal.bot_sub]
    exact ⟨⟨le_rfl, EReal.zero_lt_top⟩, rfl⟩
  | top =>
    have hz : ∑ j, Ideal.exp (f j) = ⊤ := by
      refine top_le_iff.1 (le_trans ?_ (Finset.single_le_sum (f := fun j => Ideal.exp (f j))
        (fun j _ => exp_nonneg (f j)) (Finset.mem_univ i)))
      rw [← hi, Ideal.exp_top]
    have hd : Ideal.div 1 (⊤ : EReal) = 0 := by
      unfold Ideal.div
      rw [if_neg EReal.top_ne_zero, EReal.inv_top, mul_zero]
    rw [hz, hd, mul_zero, log_zero, EReal.sub_top, EReal.bot_sub]
    exact ⟨⟨le_rfl, EReal.zero_lt_top⟩, rfl⟩
  | coe M =>
    have hnt : ∀ j, f j ≠ ⊤ := fun j => (lt_of_le_of_lt (hle j) (EReal.coe_lt_top M)).ne
    obtain ⟨u, hu, hue⟩ := fine_row fun j => fine_exp (hnt j)
    have hue' : ∀ j, Ideal.exp (f j) = (u j : EReal) := fun j => congrFun hue j
    have hz : 0 < ∑ j, u j := by
      refine lt_of_lt_of_le (Real.exp_pos M) (le_trans (le_of_eq ?_)
        (Finset.single_le_sum (f := u) (fun j _ => hu j) (Finset.mem_univ i)))
      have := hue' i
      rw [← hi, Ideal.exp_coe] at this
      exact_mod_cast this
    have hs : ∑ j, Ideal.exp (f j - (M : EReal)) = (((∑ j, u j) * Real.exp (-M) : ℝ) : EReal) := by
      rw [Finset.sum_mul, ← sum_coe]
      refine Finset.sum_congr rfl fun j _ => ?_
      rw [exp_sub_coe (hnt j), hue' j, ← EReal.coe_mul]
    have hw : Ideal.exp (f k) * Ideal.div 1 (∑ j, Ideal.exp (f j)) = ((u k / ∑ j, u j : ℝ) : EReal) := by
      rw [Finset.sum_congr rfl fun j _ => hue' j, sum_coe, one_div hz.ne', hue' k, ← EReal.coe_mul,
        mul_one_div]
    refine ⟨hw ▸ fine_coe (div_nonneg (hu k) hz.le), ?_⟩
    rw [hw, hs, log_pos (mul_pos hz (Real.exp_pos _)), Real.log_mul hz.ne' (Real.exp_pos _).ne',
      Real.log_exp]
    rcases (hu k).eq_or_lt with h0 | hk
    · have hb : f k = ⊥ := by
        rw [← log_exp (f k), hue' k, ← h0, EReal.coe_zero, log_zero]
      rw [hb, EReal.bot_sub, EReal.bot_sub, ← h0, zero_div, EReal.coe_zero, log_zero]
    · have hr : f k = (Real.log (u k) : EReal) := by rw [← log_exp (f k), hue' k, log_pos hk]
      rw [hr, log_pos (div_pos hk hz), Real.log_div hk.ne' hz.ne', ← EReal.coe_sub, ← EReal.coe_sub]
      congr 1
      ring

/-! ## The three steps -/

/-- `logsumexp` of a shifted row of logarithms is the shift plus the logarithm of the sum. -/
theorem logSumExp_eq {m : EReal} (hm : m ≠ ⊤) {p : Fin n → EReal} (hp : ∀ k, Fine (p k)) :
    logSumExp (fun k => m + Ideal.log (p k)) = m + Ideal.log (∑ k, p k) := by
  have hbot : ∀ f : Fin n → EReal, (∀ k, f k = ⊥) → logSumExp f = ⊥ := by
    intro f hf
    have hM : rowMax f = ⊥ := by
      rw [rowMax_eq_sup]
      exact (Finset.sup_congr rfl fun k _ => hf k).trans (Finset.sup_bot _)
    have hs : shift f = 0 := by
      unfold shift
      rw [hM, EReal.neg_bot, if_neg (by simp)]
    unfold logSumExp
    rw [hs, Finset.sum_congr rfl fun k _ => by rw [hf k, EReal.bot_sub, Ideal.exp_bot],
      Finset.sum_const_zero, log_zero, EReal.bot_add]
  obtain ⟨q, hq, rfl⟩ := fine_row hp
  induction m with
  | top => exact absurd rfl hm
  | bot =>
    rw [hbot _ fun k => EReal.bot_add _, EReal.bot_add]
  | coe m =>
    rw [sum_coe]
    by_cases h : ∃ k, 0 < q k
    · obtain ⟨i, hi⟩ := h
      have hz : 0 < ∑ j, q j :=
        lt_of_lt_of_le hi (Finset.single_le_sum (f := q) (fun j _ => hq j) (Finset.mem_univ i))
      obtain ⟨j, hj⟩ := rowMax_mem (fun k => (m : EReal) + Ideal.log (q k : EReal)) i
      have hg : ∃ g : ℝ, rowMax (fun k => (m : EReal) + Ideal.log (q k : EReal)) = (g : EReal) := by
        have hle := le_rowMax (fun k => (m : EReal) + Ideal.log (q k : EReal)) i
        rw [hj] at hle ⊢
        try beta_reduce at hle
        rcases (hq j).eq_or_lt with h0 | h0
        · rw [← h0, EReal.coe_zero, log_zero, EReal.add_bot, log_pos hi, ← EReal.coe_add] at hle
          exact absurd hle (not_le.2 (EReal.bot_lt_coe _))
        · exact ⟨m + Real.log (q j), by rw [log_pos h0, EReal.coe_add]⟩
      obtain ⟨g, hg⟩ := hg
      have hs : shift (fun k => (m : EReal) + Ideal.log (q k : EReal)) = (g : EReal) := by
        unfold shift
        rw [hg, ← EReal.coe_neg, if_pos (max_lt (EReal.coe_lt_top _) (EReal.coe_lt_top _))]
      unfold logSumExp
      rw [hs]
      have he : ∀ k, Ideal.exp ((m : EReal) + Ideal.log (q k : EReal) - (g : EReal))
          = ((q k * Real.exp (m - g) : ℝ) : EReal) := by
        intro k
        rcases (hq k).eq_or_lt with h0 | h0
        · rw [← h0, EReal.coe_zero, log_zero, EReal.add_bot, EReal.bot_sub, Ideal.exp_bot, zero_mul,
            EReal.coe_zero]
        · rw [log_pos h0, ← EReal.coe_add, ← EReal.coe_sub, Ideal.exp_coe]
          congr 1
          rw [show m + Real.log (q k) - g = Real.log (q k) + (m - g) by ring, Real.exp_add,
            Real.exp_log h0]
      rw [Finset.sum_congr rfl fun k _ => he k, sum_coe, ← Finset.sum_mul,
        log_pos (mul_pos hz (Real.exp_pos _)), log_pos hz, Real.log_mul hz.ne' (Real.exp_pos _).ne',
        Real.log_exp, ← EReal.coe_add, ← EReal.coe_add]
      congr 1
      ring
    · have h0 : ∀ k, q k = 0 := fun k => le_antisymm (not_lt.1 fun hk => h ⟨k, hk⟩) (hq k)
      rw [hbot _ fun k => by beta_reduce; rw [h0 k, EReal.coe_zero, log_zero, EReal.add_bot],
        Finset.sum_congr rfl fun k _ => h0 k, Finset.sum_const_zero, EReal.coe_zero, log_zero,
        EReal.add_bot]

/-- THE MIXTURE STEP.  If the kernel carries `C` as `(m, e)`, it carries the reference's mixtures of
    `C` by the rows of `θ` as `m` and the weighted sums of `e`. -/
theorem Carries.mixture {C : Fin n → EReal} {m : EReal} {e : Fin n → EReal} (h : Carries C m e)
    (θ : Fin n → Fin n → EReal) :
    Carries (fun j => Circuit.mixture (θ j) C) m (fun j => ∑ k, weight (θ j) k * e k) where
  ne_top := h.ne_top
  fine j := Fine.sum fun k => (weight_spec (θ j) k).1.mul (h.fine k)
  eq j := by
    rw [← logSumExp_eq h.ne_top fun k => (weight_spec (θ j) k).1.mul (h.fine k)]
    unfold Circuit.mixture
    congr 1
    funext k
    rw [(weight_spec (θ j) k).2, h.eq k, log_mul (weight_spec (θ j) k).1 (h.fine k), add_left_comm]

/-- THE PRODUCT STEP.  If the kernel carries `C₀` as `(m₀, s₀)` and `C₁` as `(m₁, s₁)`, it carries
    `C₀ + C₁` as `m₀ + m₁ + log t` and the products divided by their sum `t`. -/
theorem Carries.product {C₀ C₁ : Fin n → EReal} {m₀ m₁ : EReal} {s₀ s₁ : Fin n → EReal}
    (h₀ : Carries C₀ m₀ s₀) (h₁ : Carries C₁ m₁ s₁) :
    Carries (fun k => C₀ k + C₁ k) (m₀ + m₁ + Ideal.log (∑ j, s₀ j * s₁ j))
      (fun k => s₀ k * s₁ k * Ideal.div 1 (∑ j, s₀ j * s₁ j)) := by
  have hf : ∀ k, Fine (s₀ k * s₁ k) := fun k => (h₀.fine k).mul (h₁.fine k)
  have hC : ∀ k, C₀ k + C₁ k = m₀ + m₁ + Ideal.log (s₀ k * s₁ k) := fun k => by
    rw [h₀.eq, h₁.eq, log_mul (h₀.fine k) (h₁.fine k), add_add_add_comm]
  generalize hp : (fun k => s₀ k * s₁ k) = p at *
  have hpk : ∀ k, s₀ k * s₁ k = p k := fun k => congrFun hp k
  simp only [hpk] at hf hC ⊢
  have hm : m₀ + m₁ ≠ ⊤ := EReal.add_ne_top h₀.ne_top h₁.ne_top
  refine ⟨EReal.add_ne_top hm (log_ne_top (Fine.sum hf)), ?_, ?_⟩
  all_goals
    intro k
    obtain ⟨q, hq, rfl⟩ := fine_row hf
    rw [sum_coe]
    rcases (Finset.sum_nonneg fun j (_ : j ∈ Finset.univ) => hq j).eq_or_lt with h0 | hz
    · have hk : q k = 0 := (Finset.sum_eq_zero_iff_of_nonneg fun j _ => hq j).1 h0.symm k (Finset.mem_univ k)
      try rw [hC k]
      beta_reduce
      rw [hk, EReal.coe_zero, zero_mul]
      first
        | exact ⟨le_rfl, EReal.zero_lt_top⟩
        | rw [log_zero, EReal.add_bot, EReal.add_bot]
    · try rw [hC k]
      beta_reduce
      rw [one_div hz.ne']
      first
        | exact (fine_coe (hq k)).mul (fine_coe (one_div_nonneg.2 hz.le))
        | rw [log_mul (fine_coe (hq k)) (fine_coe (one_div_nonneg.2 hz.le)),
            log_pos (one_div_pos.2 hz), log_pos hz, add_assoc (m₀ + m₁), add_left_comm (Real.log _ : EReal),
            ← EReal.coe_add, _root_.one_div, Real.log_inv, add_neg_cancel, EReal.coe_zero, add_zero]

/-- Minus one half. -/
def half : EReal := ((-(1 / 2) : ℝ) : EReal)

/-- The shift-free exponent of the kernel's base layer: the cross terms and the means' squares. -/
def cross (x₀ x₁ μ₀ μ₁ : EReal) : EReal := μ₀ * x₀ + μ₁ * x₁ + half * (μ₀ * μ₀ + μ₁ * μ₁)

/-- An infinity times itself is `⊤`. -/
theorem sq_infinite {x : EReal} (h : x = ⊥ ∨ x = ⊤) : x * x = ⊤ := by
  rcases h with rfl | rfl
  · exact EReal.bot_mul_bot
  · exact EReal.top_mul_top

/-- A square is nonnegative. -/
theorem sq_nonneg (x : EReal) : 0 ≤ x * x := by
  induction x with
  | bot => rw [EReal.bot_mul_bot]; exact le_top
  | top => rw [EReal.top_mul_top]; exact le_top
  | coe r => exact_mod_cast mul_self_nonneg r

/-- Minus one half of `⊤` is `⊥`. -/
theorem half_top : half * ⊤ = ⊥ := EReal.coe_mul_top_of_neg (by norm_num)

/-- Minus one half of a nonnegative number is not `⊤`. -/
theorem half_ne_top {x : EReal} (h : 0 ≤ x) : half * x ≠ ⊤ := by
  induction x with
  | bot => exact absurd h (not_le.2 EReal.bot_lt_zero)
  | top => rw [half_top]; exact bot_ne_top
  | coe r => unfold half; rw [← EReal.coe_mul]; exact EReal.coe_ne_top _

/-- An extended real is infinite or a real. -/
theorem infinite_or_real (x : EReal) : (x = ⊥ ∨ x = ⊤) ∨ ∃ r : ℝ, x = (r : EReal) := by
  induction x with
  | bot => exact .inl (.inl rfl)
  | top => exact .inl (.inr rfl)
  | coe r => exact .inr ⟨r, rfl⟩

/-- A sum of two nonnegative numbers one of which is `⊤`. -/
theorem add_top_or {a b : EReal} (ha : 0 ≤ a) (hb : 0 ≤ b) (h : a = ⊤ ∨ b = ⊤) : a + b = ⊤ := by
  rcases h with rfl | rfl
  · exact EReal.top_add_of_ne_bot (lt_of_lt_of_le EReal.bot_lt_zero hb).ne'
  · exact EReal.add_top_of_ne_bot (lt_of_lt_of_le EReal.bot_lt_zero ha).ne'

/-- The log-density at an infinite difference. -/
theorem half_sq_sub {x μ : EReal} (h : x = ⊥ ∨ x = ⊤ ∨ ((∃ r : ℝ, x = (r : EReal)) ∧ (μ = ⊥ ∨ μ = ⊤))) :
    half * ((x - μ) * (x - μ)) = ⊥ := by
  have h' : x - μ = ⊥ ∨ x - μ = ⊤ := by
    rcases h with rfl | rfl | ⟨⟨r, rfl⟩, rfl | rfl⟩
    · exact .inl (EReal.bot_sub _)
    · induction μ with
      | bot => exact .inr EReal.top_sub_bot
      | top => exact .inl (EReal.sub_top _)
      | coe r => exact .inr (EReal.top_sub_coe r)
    · exact .inr (EReal.coe_sub_bot r)
    · exact .inl (EReal.sub_top _)
  rw [sq_infinite h', half_top]

/-- A difference from something at least as large is not `⊤`. -/
theorem sub_ne_top {q M : EReal} (h : q ≤ M) : q - M ≠ ⊤ := by
  induction M with
  | top => rw [EReal.sub_top]; exact bot_ne_top
  | bot => rw [le_bot_iff.1 h, EReal.bot_sub]; exact bot_ne_top
  | coe M =>
    induction q with
    | bot => rw [EReal.bot_sub]; exact bot_ne_top
    | top => exact absurd h (not_le.2 (EReal.coe_lt_top M))
    | coe q => rw [← EReal.coe_sub]; exact EReal.coe_ne_top _

/-- At real data, a cross term is `⊥` with a mean infinite, or real with both means real. -/
theorem cross_coe (r₀ r₁ : ℝ) (μ₀ μ₁ : EReal) :
    (cross r₀ r₁ μ₀ μ₁ = ⊥ ∧ ((μ₀ = ⊥ ∨ μ₀ = ⊤) ∨ (μ₁ = ⊥ ∨ μ₁ = ⊤))) ∨
      ∃ a b : ℝ, μ₀ = (a : EReal) ∧ μ₁ = (b : EReal) ∧
        cross r₀ r₁ μ₀ μ₁ = ((a * r₀ + b * r₁ + -(1 / 2) * (a * a + b * b) : ℝ) : EReal) := by
  by_cases h : (μ₀ = ⊥ ∨ μ₀ = ⊤) ∨ (μ₁ = ⊥ ∨ μ₁ = ⊤)
  · refine .inl ⟨?_, h⟩
    unfold cross
    rw [add_top_or (sq_nonneg μ₀) (sq_nonneg μ₁) (h.imp sq_infinite sq_infinite), half_top,
      EReal.add_bot]
  · obtain ⟨a, rfl⟩ := (infinite_or_real μ₀).resolve_left fun h' => h (.inl h')
    obtain ⟨b, rfl⟩ := (infinite_or_real μ₁).resolve_left fun h' => h (.inr h')
    refine .inr ⟨a, b, rfl, rfl, ?_⟩
    unfold cross half
    simp only [← EReal.coe_mul, ← EReal.coe_add]

/-- THE BASE STEP.  The sum of the two Gaussian log-densities of a fold is carried as the largest
    cross term plus minus one half of the squares of the data, and the exponentials of the cross
    terms below the largest. -/
theorem carries_base (x₀ x₁ : EReal) (μ₀ μ₁ : Fin n → EReal) (i : Fin n) :
    Carries (fun k => half * ((x₀ - μ₀ k) * (x₀ - μ₀ k)) + half * ((x₁ - μ₁ k) * (x₁ - μ₁ k)))
      (rowMax (fun k => cross x₀ x₁ (μ₀ k) (μ₁ k)) + half * (x₀ * x₀ + x₁ * x₁))
      (fun k => Ideal.exp (cross x₀ x₁ (μ₀ k) (μ₁ k) - rowMax fun k => cross x₀ x₁ (μ₀ k) (μ₁ k))) := by
  by_cases hx : (x₀ = ⊥ ∨ x₀ = ⊤) ∨ (x₁ = ⊥ ∨ x₁ = ⊤)
  · have hbv : half * (x₀ * x₀ + x₁ * x₁) = ⊥ := by
      rw [add_top_or (sq_nonneg x₀) (sq_nonneg x₁) (hx.imp sq_infinite sq_infinite), half_top]
    rw [hbv, EReal.add_bot]
    refine ⟨bot_ne_top, fun k => fine_exp ?_, fun k => ?_⟩
    · exact sub_ne_top (le_rowMax (fun k => cross x₀ x₁ (μ₀ k) (μ₁ k)) k)
    · rw [EReal.bot_add]
      rcases hx with h | h
      · rw [half_sq_sub (h.imp_right .inl), EReal.bot_add]
      · rw [half_sq_sub (x := x₁) (h.imp_right .inl), EReal.add_bot]
  · obtain ⟨r₀, rfl⟩ := (infinite_or_real x₀).resolve_left fun h => hx (.inl h)
    obtain ⟨r₁, rfl⟩ := (infinite_or_real x₁).resolve_left fun h => hx (.inr h)
    have hM : rowMax (fun k => cross r₀ r₁ (μ₀ k) (μ₁ k)) ≠ ⊤ :=
      rowMax_ne_top i fun j => (cross_coe r₀ r₁ (μ₀ j) (μ₁ j)).elim
        (fun h => h.1 ▸ bot_ne_top) fun ⟨a, b, _, _, h⟩ => h ▸ EReal.coe_ne_top _
    have hbv : half * ((r₀ : EReal) * r₀ + r₁ * r₁) = ((-(1 / 2) * (r₀ * r₀ + r₁ * r₁) : ℝ) : EReal) := by
      unfold half
      rw [← EReal.coe_mul, ← EReal.coe_mul, ← EReal.coe_add, ← EReal.coe_mul]
    refine ⟨?_, fun k => fine_exp (sub_ne_top (le_rowMax (fun k => cross r₀ r₁ (μ₀ k) (μ₁ k)) k)), fun k => ?_⟩
    · rw [hbv]
      exact EReal.add_ne_top hM (EReal.coe_ne_top _)
    rw [log_exp]
    have hle := le_rowMax (fun k => cross r₀ r₁ (μ₀ k) (μ₁ k)) k
    beta_reduce at hle
    generalize rowMax (fun k => cross r₀ r₁ (μ₀ k) (μ₁ k)) = M at hle hM
    rcases cross_coe r₀ r₁ (μ₀ k) (μ₁ k) with ⟨h, hinf⟩ | ⟨a, b, ha, hb, h⟩
    · rw [h, EReal.bot_sub, EReal.add_bot]
      rcases hinf with hi | hi
      · rw [half_sq_sub (.inr (.inr ⟨⟨r₀, rfl⟩, hi⟩)), EReal.bot_add]
      · rw [half_sq_sub (x := (r₁ : EReal)) (.inr (.inr ⟨⟨r₁, rfl⟩, hi⟩)), EReal.add_bot]
    · rw [h] at hle
      have hM' : M ≠ ⊥ := fun hb => absurd (hb ▸ hle) (not_le.2 (EReal.bot_lt_coe _))
      lift M to ℝ using ⟨hM, hM'⟩
      rw [h, ha, hb, hbv]
      unfold half
      rw [← EReal.coe_sub, ← EReal.coe_sub, ← EReal.coe_sub, ← EReal.coe_mul, ← EReal.coe_mul,
        ← EReal.coe_mul, ← EReal.coe_mul, ← EReal.coe_add, ← EReal.coe_add, ← EReal.coe_add]
      congr 1
      ring

/-- The literal minus one half. -/
theorem ofBits_half : Ideal.ofBits .f32 0xBF000000#32 = half := by
  unfold half
  simp [Ideal.ofBits, Ideal.ieee]
  rw [← EReal.coe_mul]
  norm_num

/-- The literal minus infinity. -/
theorem ofBits_bot : Ideal.ofBits .f32 0xFF800000#32 = ⊥ := by
  simp [Ideal.ofBits, Ideal.ieee]

/-- The literal infinity. -/
theorem ofBits_inf : Ideal.ofBits .f32 0x7F800000#32 = ⊤ := by
  simp [Ideal.ofBits, Ideal.ieee]

end Circuit

end
-- ==== Proof.Circuit.lean ====
module

public import proofs.«01_k».proof.Proof.Scalars
public import Idealize.ShloMosaic.Lib.Pointwise

/-!
# The circuit, for one row of the batch

The recursion both programs compute: the leaves' log-densities, then nine layers of mixtures of the
sums of neighbouring folds.
-/

@[expose] public section

noncomputable section

namespace Circuit

open Idealize.ShloMosaic

/-- What a layer computes for one row of the batch: the mixtures of the sums of each pair of folds. -/
def up {F f n : Nat} (hF : F = 2 * f) (θ : Fin f → Fin n → Fin n → EReal) (C : Fin F → Fin n → EReal) :
    Fin f → Fin n → EReal :=
  fun a j => mixture (θ a j) fun k => C ⟨2 * a.val + 0, by omega⟩ k + C ⟨2 * a.val + 1, by omega⟩ k

/-- A parameter array read at its three coordinates. -/
def tri {f n : Nat} (θ : FVec Ideal ⟨3, ![f, n, n]⟩ .f32) : Fin f → Fin n → Fin n → EReal :=
  fun a j k => θ (ix3 a j k)

/-- The parameters of the nine layers. -/
structure Params where
  θ₀ : FVec Ideal ⟨3, ![256, 32, 32]⟩ .f32
  θ₁ : FVec Ideal ⟨3, ![128, 32, 32]⟩ .f32
  θ₂ : FVec Ideal ⟨3, ![64, 32, 32]⟩ .f32
  θ₃ : FVec Ideal ⟨3, ![32, 32, 32]⟩ .f32
  θ₄ : FVec Ideal ⟨3, ![16, 32, 32]⟩ .f32
  θ₅ : FVec Ideal ⟨3, ![8, 32, 32]⟩ .f32
  θ₆ : FVec Ideal ⟨3, ![4, 32, 32]⟩ .f32
  θ₇ : FVec Ideal ⟨3, ![2, 32, 32]⟩ .f32
  θ₈ : FVec Ideal ⟨3, ![1, 32, 32]⟩ .f32

/-- The log-density of leaf `d`, node `k`, up to its constant: minus half the squared distance of `x d` from the mean. -/
def leaf (M : Fin 512 → Fin 32 → EReal) (x : Fin 512 → EReal) (d : Fin 512) (k : Fin 32) : EReal :=
  half * ((x d - M d k) * (x d - M d k))

variable (p : Params) (M : Fin 512 → Fin 32 → EReal) (x : Fin 512 → EReal)

/-- The log-densities after the first layer, and after each of the next eight. -/
def level₀ : Fin 256 → Fin 32 → EReal := up rfl (tri p.θ₀) (leaf M x)
def level₁ : Fin 128 → Fin 32 → EReal := up rfl (tri p.θ₁) (level₀ p M x)
def level₂ : Fin 64 → Fin 32 → EReal := up rfl (tri p.θ₂) (level₁ p M x)
def level₃ : Fin 32 → Fin 32 → EReal := up rfl (tri p.θ₃) (level₂ p M x)
def level₄ : Fin 16 → Fin 32 → EReal := up rfl (tri p.θ₄) (level₃ p M x)
def level₅ : Fin 8 → Fin 32 → EReal := up rfl (tri p.θ₅) (level₄ p M x)
def level₆ : Fin 4 → Fin 32 → EReal := up rfl (tri p.θ₆) (level₅ p M x)
def level₇ : Fin 2 → Fin 32 → EReal := up rfl (tri p.θ₇) (level₆ p M x)
def level₈ : Fin 1 → Fin 32 → EReal := up rfl (tri p.θ₈) (level₇ p M x)

/-- A coordinate of a spread array: on an axis of size one there is only one. -/
theorem coordinate {N : Nat} (a : Fin N) (p : N = 1 → Fin N) (q : ¬ N = 1 → Fin N) (hq : ∀ h, (q h).val = a.val) :
    (dite (N = 1) p q).val = a.val := by
  split
  · have := (p ‹_›).isLt
    have := a.isLt
    omega
  · exact hq _

end Circuit

end
-- ==== Proof.ReferenceLayer.lean ====
module

public import proofs.«01_k».proof.Proof.Circuit
public import Idealize.ShloMosaic.Lib.Pointwise
public import Idealize.ShloMosaic.Lib.Pointwise.IndexVar
public import Idealize.ShloMosaic.Lib.Routing.OpsPair

/-!
# One layer of the reference, at any number of folds

The array operations of one layer of the reference, with the number of folds a variable: the
neighbouring folds gathered and added, the normalised parameters added, and the log-sum-exp over the
last axis; each read at an index.
-/

@[expose] public section

set_option maxRecDepth 16384

noncomputable section

namespace Circuit

open Idealize.ShloMosaic

/-- The dimension numbers of a gather of `s` folds for each of `f`, from an array `[F, b, n]`. -/
abbrev pairs {F f s b n : Nat}
    (wf : GatherDims.WF ⟨3, ![F, b, n]⟩ ⟨3, ![f, s, 1]⟩ ⟨4, ![f, s, b, n]⟩ [2, 3] [0] [] [0] [] 2 ![1, b, n]) :
    GatherDims ⟨3, ![F, b, n]⟩ ⟨3, ![f, s, 1]⟩ ⟨4, ![f, s, b, n]⟩ where
  offsetDims := [2, 3]
  collapsedSliceDims := [0]
  operandBatchingDims := []
  startIndicesBatchingDims := []
  startIndexMap := [0]
  indexVectorDim := 2
  sliceSizes := ![1, b, n]
  wf := wf

/-- The gather at an index: the array at the fold its index word names. -/
theorem pairs_apply {α : Type} {F f s b n : Nat}
    (wf : GatherDims.WF ⟨3, ![F, b, n]⟩ ⟨3, ![f, s, 1]⟩ ⟨4, ![f, s, b, n]⟩ [2, 3] [0] [] [0] [] 2 ![1, b, n])
    (x : (⟨3, ![F, b, n]⟩ : Shape).Idx → α) (w : IVec ⟨3, ![f, s, 1]⟩ 32) (a : Fin f) (o : Fin s) (r : Fin b) (k : Fin n)
    (i : Fin F) (hi : (w (ix3 a o 0)).toInt.toNat = i.val) :
    Host.gather (pairs wf) x w (ix4 a o r k) = x (ix3 i r k) := by
  unfold Host.gather
  refine congrArg x (funext fun c => Fin.ext ?_)
  show (pairs wf).start (ix4 a o r k) w c + (pairs wf).batchCoord (ix4 a o r k) c +
    (pairs wf).offCoord (ix4 a o r k) c = _
  rw [GatherDims.batchCoord_eq_zero _ _ _ List.not_mem_nil]
  match c with
  | ⟨0, hc⟩ =>
    rw [GatherDims.offCoord_eq_zero _ _ _ (fun h => ((GatherDims.mem_sKept _ _).mp h).1 (List.mem_singleton.mpr rfl))]
    unfold GatherDims.start
    rw [dif_pos (show ⟨0, hc⟩ ∈ (pairs wf).startIndexMap from List.mem_singleton.mpr rfl)]
    have hs : (pairs wf).siIdx (ix4 a o r k) ⟨List.idxOf ⟨0, hc⟩ (pairs wf).startIndexMap,
        List.idxOf_lt_length_iff.2 (List.mem_singleton.mpr rfl)⟩ = ix3 a o 0 := by
      funext e
      refine Fin.ext ?_
      match e with
      | ⟨0, _⟩ => rfl
      | ⟨1, _⟩ => rfl
      | ⟨2, _⟩ => rfl
    show min (w ((pairs wf).siIdx (ix4 a o r k) _)).toInt.toNat (F - 1) + 0 + 0 = i.val
    rw [hs, hi]
    omega
  | ⟨1, hc⟩ =>
    unfold GatherDims.start
    rw [dif_neg (show ¬ ⟨1, hc⟩ ∈ (pairs wf).startIndexMap from fun h => by
      have := congrArg Fin.val (List.mem_singleton.mp h)
      simp at this)]
    show 0 + 0 + r.val = r.val
    omega
  | ⟨2, hc⟩ =>
    unfold GatherDims.start
    rw [dif_neg (show ¬ ⟨2, hc⟩ ∈ (pairs wf).startIndexMap from fun h => by
      have := congrArg Fin.val (List.mem_singleton.mp h)
      simp at this)]
    show 0 + 0 + k.val = k.val
    omega

/-- A broadcast at an index: its operand at the index that agrees along each kept axis of size other than one. -/
theorem broadcast_at {α : Type} {s t : Shape} (dims : Fin s.rank → Fin t.rank) (h : s.BroadcastsInDim t dims) (x : s.Idx → α) (j : t.Idx)
    (i : s.Idx) (hi : ∀ c, s.size c = 1 ∨ (j (dims c)).val = (i c).val) : broadcastInDim t dims h x j = x i := by
  refine congrArg x (funext fun c => Fin.ext ?_)
  refine coordinate (i c) _ _ fun h₁ => ?_
  exact (hi c).resolve_left h₁

/-- The shape of a scalar. -/
abbrev S₀ : Shape := ⟨0, ![]⟩

/-- The index words of the neighbours: the numbers below `F` in order, as pairs, each negative one wrapped. -/
def indexV {F f : Nat} (c : BitVec 32) (h₁ : (⟨1, ![F]⟩ : Shape).ShapeCasts ⟨2, ![f, 2]⟩)
    (h₂ : S₀.BroadcastsInDim ⟨2, ![f, 2]⟩ ![])
    (h₃ : (⟨2, ![f, 2]⟩ : Shape).BroadcastsInDim ⟨3, ![f, 2, 1]⟩ ![0, 1]) : IVec ⟨3, ![f, 2, 1]⟩ 32 :=
  broadcastInDim ⟨3, ![f, 2, 1]⟩ ![0, 1] h₃
    (select (cmpi .slt (shapeCast ⟨2, ![f, 2]⟩ (iotaInDim ⟨1, ![F]⟩ 32 0) h₁) (broadcastInDim ⟨2, ![f, 2]⟩ ![] h₂ (constantI S₀ 32 0#32)))
      (addi (shapeCast ⟨2, ![f, 2]⟩ (iotaInDim ⟨1, ![F]⟩ 32 0) h₁) (broadcastInDim ⟨2, ![f, 2]⟩ ![] h₂ (constantI S₀ 32 c)))
      (shapeCast ⟨2, ![f, 2]⟩ (iotaInDim ⟨1, ![F]⟩ 32 0) h₁))

/-- The index word of neighbour `o` of fold `a` names `2 a + o`. -/
theorem indexV_apply {F f : Nat} (hF : F = 2 * f) (hs : F < 2 ^ 31) (c : BitVec 32)
    (h₁ : (⟨1, ![F]⟩ : Shape).ShapeCasts ⟨2, ![f, 2]⟩) (h₂ : S₀.BroadcastsInDim ⟨2, ![f, 2]⟩ ![])
    (h₃ : (⟨2, ![f, 2]⟩ : Shape).BroadcastsInDim ⟨3, ![f, 2, 1]⟩ ![0, 1]) (a : Fin f) (o : Fin 2) :
    (indexV c h₁ h₂ h₃ (ix3 a o 0)).toInt.toNat = 2 * a.val + o.val := by
  have hlt : 2 * a.val + o.val < F := by omega
  have e₁ : Shape.reshapeEquiv h₁ (ix2 a o) = ix1 ⟨2 * a.val + o.val, hlt⟩ := by
    refine Shape.reshapeEquiv_eq_of_rowMajor h₁ ?_
    rw [rowMajor_val1, rowMajor_val2 _ _ rfl]
    show 2 * a.val + o.val = a.val * 2 + o.val
    ring
  have hi : indexV c h₁ h₂ h₃ (ix3 a o 0) =
      Scalar.select (IntOp.cmpi .slt (BitVec.ofNat 32 (2 * a.val + o.val)) 0#32)
        (BitVec.ofNat 32 (2 * a.val + o.val) + c) (BitVec.ofNat 32 (2 * a.val + o.val)) := by
    unfold indexV
    rw [broadcast_at _ h₃ _ _ (ix2 a o) (fun c => by fin_cases c <;> first | exact Or.inl rfl | exact Or.inr rfl)]
    pointwise []
    rw [e₁]
    rfl
  rw [hi, Routing.wrap_of_lt _ _ (by rw [BitVec.toNat_ofNat]; omega), BitVec.toInt_eq_toNat_of_lt (by rw [BitVec.toNat_ofNat]; omega),
    BitVec.toNat_ofNat]
  omega

/-- What the shapes of a layer of `f` folds of `n` units over `b` rows, from `F` folds, allow. -/
structure Layered (F f b n : Nat) : Prop where
  scalar : 0 < S₀.numel
  half : F = 2 * f
  small : F < 2 ^ 31
  units : (⟨3, ![f, n, n]⟩ : Shape).ReducesTo [2] ⟨2, ![f, n]⟩
  fillUnits : S₀.BroadcastsInDim ⟨2, ![f, n]⟩ ![]
  standUnits : (⟨2, ![f, n]⟩ : Shape).BroadcastsInDim ⟨3, ![f, n, 1]⟩ ![0, 1]
  spreadUnits : (⟨3, ![f, n, 1]⟩ : Shape).BroadcastsInDim ⟨3, ![f, n, n]⟩ ![0, 1, 2]
  standTable : (⟨3, ![f, n, n]⟩ : Shape).BroadcastsInDim ⟨4, ![f, 1, n, n]⟩ ![0, 2, 3]
  spreadTable : (⟨4, ![f, 1, n, n]⟩ : Shape).BroadcastsInDim ⟨4, ![f, b, n, n]⟩ ![0, 1, 2, 3]
  order : (⟨1, ![F]⟩ : Shape).ShapeCasts ⟨2, ![f, 2]⟩
  fillOrder : S₀.BroadcastsInDim ⟨2, ![f, 2]⟩ ![]
  standOrder : (⟨2, ![f, 2]⟩ : Shape).BroadcastsInDim ⟨3, ![f, 2, 1]⟩ ![0, 1]
  gather : GatherDims.WF ⟨3, ![F, b, n]⟩ ⟨3, ![f, 2, 1]⟩ ⟨4, ![f, 2, b, n]⟩ [2, 3] [0] [] [0] [] 2 ![1, b, n]
  sides : (⟨4, ![f, 2, b, n]⟩ : Shape).ReducesTo [1] ⟨3, ![f, b, n]⟩
  standSides : (⟨3, ![f, b, n]⟩ : Shape).BroadcastsInDim ⟨4, ![f, b, 1, n]⟩ ![0, 1, 3]
  spreadSides : (⟨4, ![f, b, 1, n]⟩ : Shape).BroadcastsInDim ⟨4, ![f, b, n, n]⟩ ![0, 1, 2, 3]
  last : (⟨4, ![f, b, n, n]⟩ : Shape).ReducesTo [3] ⟨3, ![f, b, n]⟩
  fillLast : S₀.BroadcastsInDim ⟨3, ![f, b, n]⟩ ![]
  standLast : (⟨3, ![f, b, n]⟩ : Shape).BroadcastsInDim ⟨4, ![f, b, n, 1]⟩ ![0, 1, 2]
  spreadLast : (⟨4, ![f, b, n, 1]⟩ : Shape).BroadcastsInDim ⟨4, ![f, b, n, n]⟩ ![0, 1, 2, 3]

/-- A value for each row, spread over the last axis: the row's value. -/
theorem spreadRow_apply {α : Type} {f n : Nat} (x : (⟨2, ![f, n]⟩ : Shape).Idx → α)
    (h₁ : (⟨2, ![f, n]⟩ : Shape).BroadcastsInDim ⟨3, ![f, n, 1]⟩ ![0, 1])
    (h₂ : (⟨3, ![f, n, 1]⟩ : Shape).BroadcastsInDim ⟨3, ![f, n, n]⟩ ![0, 1, 2]) (a : Fin f) (j k : Fin n) :
    broadcastInDim ⟨3, ![f, n, n]⟩ ![0, 1, 2] h₂ (broadcastInDim ⟨3, ![f, n, 1]⟩ ![0, 1] h₁ x) (ix3 a j k) = x (ix2 a j) := by
  rw [broadcast_at _ h₂ _ _ (ix3 a j 0) (fun c => by fin_cases c <;> first | exact Or.inl rfl | exact Or.inr rfl), broadcast_at _ h₁ _ _ (ix2 a j) (fun c => by fin_cases c <;> first | exact Or.inl rfl | exact Or.inr rfl)]

variable {F f b n : Nat} (H : Layered F f b n)

/-- A table less the greatest entry of each of its rows. -/
def shiftedV (θ : FVec Ideal ⟨3, ![f, n, n]⟩ .f32) : FVec Ideal ⟨3, ![f, n, n]⟩ .f32 :=
  subf θ (broadcastInDim ⟨3, ![f, n, n]⟩ ![0, 1, 2] H.spreadUnits (broadcastInDim ⟨3, ![f, n, 1]⟩ ![0, 1] H.standUnits
    (maximumf (broadcastInDim ⟨2, ![f, n]⟩ ![] H.fillUnits (constant S₀ .f32 0xFF800000#32))
      (Host.reduce FloatOps.maximumf θ (constant S₀ .f32 0xFF800000#32) H.units H.scalar))))

/-- A table less the log-sum-exp of each of its rows. -/
def normalV (θ : FVec Ideal ⟨3, ![f, n, n]⟩ .f32) : FVec Ideal ⟨3, ![f, n, n]⟩ .f32 :=
  subf (shiftedV H θ) (broadcastInDim ⟨3, ![f, n, n]⟩ ![0, 1, 2] H.spreadUnits (Host.log (broadcastInDim ⟨3, ![f, n, 1]⟩ ![0, 1] H.standUnits
    (Host.reduceAdd (Host.exp (shiftedV H θ)) (constant S₀ .f32 0x00000000#32) H.units H.scalar))))

/-- The sum of the two neighbouring folds. -/
def sumV (c : BitVec 32) (x : FVec Ideal ⟨3, ![F, b, n]⟩ .f32) : FVec Ideal ⟨3, ![f, b, n]⟩ .f32 :=
  Host.reduceAdd (Host.gather (pairs H.gather) x (indexV c H.order H.fillOrder H.standOrder)) (constant S₀ .f32 0x00000000#32)
    H.sides H.scalar

/-- What a layer takes the log-sum-exp of, along the last axis. -/
def logitsV (c : BitVec 32) (θ : FVec Ideal ⟨3, ![f, n, n]⟩ .f32) (x : FVec Ideal ⟨3, ![F, b, n]⟩ .f32) : FVec Ideal ⟨4, ![f, b, n, n]⟩ .f32 :=
  addf (broadcastInDim ⟨4, ![f, b, n, n]⟩ ![0, 1, 2, 3] H.spreadTable (broadcastInDim ⟨4, ![f, 1, n, n]⟩ ![0, 2, 3] H.standTable (normalV H θ)))
    (broadcastInDim ⟨4, ![f, b, n, n]⟩ ![0, 1, 2, 3] H.spreadSides (broadcastInDim ⟨4, ![f, b, 1, n]⟩ ![0, 1, 3] H.standSides (sumV H c x)))

/-- The greatest entry of each row. -/
def greatestV (l : FVec Ideal ⟨4, ![f, b, n, n]⟩ .f32) : FVec Ideal ⟨3, ![f, b, n]⟩ .f32 :=
  Host.reduce FloatOps.maximumf l (constant S₀ .f32 0xFF800000#32) H.last H.scalar

/-- The greatest entry of each row where it is finite, zero elsewhere. -/
def shiftV (l : FVec Ideal ⟨4, ![f, b, n, n]⟩ .f32) : FVec Ideal ⟨3, ![f, b, n]⟩ .f32 :=
  select (cmpf .olt (Host.absf (greatestV H l)) (broadcastInDim ⟨3, ![f, b, n]⟩ ![] H.fillLast (constant S₀ .f32 0x7F800000#32)))
    (greatestV H l) (broadcastInDim ⟨3, ![f, b, n]⟩ ![] H.fillLast (id (constant S₀ .f32 0x00000000#32)))

/-- The log-sum-exp of each row. -/
def logSumExpV (l : FVec Ideal ⟨4, ![f, b, n, n]⟩ .f32) : FVec Ideal ⟨3, ![f, b, n]⟩ .f32 :=
  addf (Host.log (Host.reduceAdd (Host.exp (subf l (broadcastInDim ⟨4, ![f, b, n, n]⟩ ![0, 1, 2, 3] H.spreadLast
    (broadcastInDim ⟨4, ![f, b, n, 1]⟩ ![0, 1, 2] H.standLast (shiftV H l))))) (constant S₀ .f32 0x00000000#32) H.last H.scalar)) (shiftV H l)

/-- A table's entry less the greatest of its row. -/
theorem shiftedV_apply (θ : FVec Ideal ⟨3, ![f, n, n]⟩ .f32) (a : Fin f) (j k : Fin n) :
    shiftedV H θ (ix3 a j k) = tri θ a j k - rowMax (tri θ a j) := by
  unfold shiftedV
  rw [subf_apply, spreadRow_apply]
  pointwise []
  rw [ofBits_bot, max_eq_right bot_le]
  rfl

/-- The sum along a table's last axis. -/
theorem sumUnits_apply (v : FVec Ideal ⟨3, ![f, n, n]⟩ .f32) (a : Fin f) (j : Fin n) :
    Host.reduceAdd v (constant S₀ .f32 0x00000000#32) H.units H.scalar (ix2 a j) = ∑ k, v (ix3 a j k) := by
  refine (Ideal.hostReduceAdd_r3_a2 H.units _ _ (ix2 a j)).trans ?_
  rw [show constant (F := Ideal) S₀ .f32 0x00000000#32 (Shape.Idx.first H.scalar) = 0 from Ideal.ofBits_zero_f32, zero_add]
  rfl

/-- The sum along the last axis of the logits. -/
theorem sumLast_apply (v : FVec Ideal ⟨4, ![f, b, n, n]⟩ .f32) (a : Fin f) (r : Fin b) (j : Fin n) :
    Host.reduceAdd v (constant S₀ .f32 0x00000000#32) H.last H.scalar (ix3 a r j) = ∑ k, v (ix4 a r j k) := by
  refine (Ideal.hostReduceAdd_r4_a3 H.last _ _ (ix3 a r j)).trans ?_
  rw [show constant (F := Ideal) S₀ .f32 0x00000000#32 (Shape.Idx.first H.scalar) = 0 from Ideal.ofBits_zero_f32, zero_add]
  rfl

/-- The normalised table at an index: the log-softmax of its row. -/
theorem normalV_apply (θ : FVec Ideal ⟨3, ![f, n, n]⟩ .f32) (a : Fin f) (j k : Fin n) :
    normalV H θ (ix3 a j k) = logSoftmax (tri θ a j) k := by
  unfold normalV
  rw [subf_apply, broadcast_at _ _ _ _ (ix3 a j 0) (fun c => by fin_cases c <;> first | exact Or.inl rfl | exact Or.inr rfl), shiftedV_apply]
  refine congrArg (fun z => (tri θ a j k - rowMax (tri θ a j)) - Ideal.log z) ?_
  rw [broadcast_at _ H.standUnits _ _ (ix2 a j) (fun c => by fin_cases c <;> first | exact Or.inl rfl | exact Or.inr rfl)]
  refine (sumUnits_apply H _ a j).trans (Finset.sum_congr rfl fun k _ => ?_)
  exact congrArg Ideal.exp (shiftedV_apply H θ a j k)

/-- The two neighbours of fold `a` are folds `2 a` and `2 a + 1`. -/
theorem sumV_apply (c : BitVec 32) (x : FVec Ideal ⟨3, ![F, b, n]⟩ .f32) (a : Fin f) (r : Fin b) (k : Fin n)
    (h₀ : 2 * a.val + 0 < F) (h₁ : 2 * a.val + 1 < F) :
    sumV H c x (ix3 a r k) = x (ix3 ⟨2 * a.val + 0, h₀⟩ r k) + x (ix3 ⟨2 * a.val + 1, h₁⟩ r k) := by
  unfold sumV
  refine (Ideal.hostReduceAdd_r4_a1 H.sides _ _ (ix3 a r k)).trans ?_
  rw [Fin.sum_univ_two, show constant (F := Ideal) S₀ .f32 0x00000000#32 (Shape.Idx.first H.scalar) = 0 from Ideal.ofBits_zero_f32, zero_add]
  exact congrArg₂ (· + ·) (pairs_apply H.gather x _ a 0 r k ⟨2 * a.val + 0, h₀⟩ (indexV_apply H.half H.small c _ _ _ a 0))
    (pairs_apply H.gather x _ a 1 r k ⟨2 * a.val + 1, h₁⟩ (indexV_apply H.half H.small c _ _ _ a 1))

/-- The logits at an index. -/
theorem logitsV_apply (c : BitVec 32) (θ : FVec Ideal ⟨3, ![f, n, n]⟩ .f32) (x : FVec Ideal ⟨3, ![F, b, n]⟩ .f32)
    (a : Fin f) (r : Fin b) (j k : Fin n) :
    logitsV H c θ x (ix4 a r j k) = logSoftmax (tri θ a j) k + sumV H c x (ix3 a r k) := by
  unfold logitsV
  rw [addf_apply, broadcast_at _ H.spreadTable _ _ (ix4 a 0 j k) (fun c => by fin_cases c <;> first | exact Or.inl rfl | exact Or.inr rfl), broadcast_at _ H.standTable _ _ (ix3 a j k) (fun c => by fin_cases c <;> first | exact Or.inl rfl | exact Or.inr rfl),
    broadcast_at _ H.spreadSides _ _ (ix4 a r 0 k) (fun c => by fin_cases c <;> first | exact Or.inl rfl | exact Or.inr rfl), broadcast_at _ H.standSides _ _ (ix3 a r k) (fun c => by fin_cases c <;> first | exact Or.inl rfl | exact Or.inr rfl), normalV_apply]
  rfl

/-- The greatest logit at an index. -/
theorem greatestV_apply (l : FVec Ideal ⟨4, ![f, b, n, n]⟩ .f32) (a : Fin f) (r : Fin b) (j : Fin n) :
    greatestV H l (ix3 a r j) = rowMax fun k => l (ix4 a r j k) := by
  unfold greatestV
  pointwise []
  rw [ofBits_bot]
  rfl

/-- The shift at an index. -/
theorem shiftV_apply (l : FVec Ideal ⟨4, ![f, b, n, n]⟩ .f32) (a : Fin f) (r : Fin b) (j : Fin n) :
    shiftV H l (ix3 a r j) = shift fun k => l (ix4 a r j k) := by
  unfold shiftV
  pointwise []
  rw [greatestV_apply, ofBits_inf, show id (constant (F := Ideal) S₀ .f32 0x00000000#32) ix0 = 0 from Ideal.ofBits_zero_f32]
  rfl

/-- The log-sum-exp at an index. -/
theorem logSumExpV_apply (l : FVec Ideal ⟨4, ![f, b, n, n]⟩ .f32) (a : Fin f) (r : Fin b) (j : Fin n) :
    logSumExpV H l (ix3 a r j) = logSumExp fun k => l (ix4 a r j k) := by
  unfold logSumExpV
  rw [addf_apply, shiftV_apply]
  refine congrArg (fun z => Ideal.log z + _) ?_
  refine (sumLast_apply H _ a r j).trans (Finset.sum_congr rfl fun k _ => congrArg Ideal.exp ?_)
  rw [subf_apply, broadcast_at _ H.spreadLast _ _ (ix4 a r j 0) (fun c => by fin_cases c <;> first | exact Or.inl rfl | exact Or.inr rfl), broadcast_at _ H.standLast _ _ (ix3 a r j) (fun c => by fin_cases c <;> first | exact Or.inl rfl | exact Or.inr rfl), shiftV_apply]
  rfl

/-- One layer: the log-sum-exp of the logits. -/
def layerV (c : BitVec 32) (θ : FVec Ideal ⟨3, ![f, n, n]⟩ .f32) (x : FVec Ideal ⟨3, ![F, b, n]⟩ .f32) : FVec Ideal ⟨3, ![f, b, n]⟩ .f32 :=
  logSumExpV H (logitsV H c θ x)

/-- A layer of the reference computes, row by row, the layer of the circuit. -/
theorem layerV_apply (c : BitVec 32) (θ : FVec Ideal ⟨3, ![f, n, n]⟩ .f32) (x : FVec Ideal ⟨3, ![F, b, n]⟩ .f32)
    (C : Fin b → Fin F → Fin n → EReal) (hx : ∀ r d k, x (ix3 d r k) = C r d k) (r : Fin b) (a : Fin f) (j : Fin n) :
    layerV H c θ x (ix3 a r j) = up H.half (tri θ) (C r) a j := by
  unfold layerV
  rw [logSumExpV_apply]
  refine congrArg logSumExp (funext fun k => ?_)
  have := H.half
  rw [logitsV_apply, sumV_apply H c x a r k (by omega) (by omega), hx, hx]

end Circuit

end
-- ==== Proof.ReferenceLeaves.lean ====
module

public import proofs.«01_k».proof.Proof.ReferenceLayer

/-!
# The leaves and the root of the reference

What the reference computes before its first layer, the leaves' log-densities, and what it does after
its last, which only puts the axes in order; at any number of leaves, rows and units.
-/

@[expose] public section

set_option maxRecDepth 16384

noncomputable section

namespace Circuit

open Idealize.ShloMosaic

/-- The dimension numbers of a gather of columns of an array `[b, 1, D]`. -/
abbrev columns {D b : Nat}
    (wf : GatherDims.WF ⟨3, ![b, 1, D]⟩ ⟨3, ![D, 1, 1]⟩ ⟨4, ![b, 1, D, 1]⟩ [0, 1] [2] [] [2] [] 2 ![b, 1, 1]) :
    GatherDims ⟨3, ![b, 1, D]⟩ ⟨3, ![D, 1, 1]⟩ ⟨4, ![b, 1, D, 1]⟩ where
  offsetDims := [0, 1]
  collapsedSliceDims := [2]
  operandBatchingDims := []
  startIndicesBatchingDims := []
  startIndexMap := [2]
  indexVectorDim := 2
  sliceSizes := ![b, 1, 1]
  wf := wf

/-- The gather at an index: the array at the column its index word names. -/
theorem columns_apply {α : Type} {D b : Nat}
    (wf : GatherDims.WF ⟨3, ![b, 1, D]⟩ ⟨3, ![D, 1, 1]⟩ ⟨4, ![b, 1, D, 1]⟩ [0, 1] [2] [] [2] [] 2 ![b, 1, 1])
    (x : (⟨3, ![b, 1, D]⟩ : Shape).Idx → α) (w : IVec ⟨3, ![D, 1, 1]⟩ 32) (r : Fin b) (d i : Fin D)
    (hi : (w (ix3 d 0 0)).toInt.toNat = i.val) :
    Host.gather (columns wf) x w (ix4 r 0 d 0) = x (ix3 r 0 i) := by
  unfold Host.gather
  refine congrArg x (funext fun c => Fin.ext ?_)
  show (columns wf).start (ix4 r 0 d 0) w c + (columns wf).batchCoord (ix4 r 0 d 0) c +
    (columns wf).offCoord (ix4 r 0 d 0) c = _
  rw [GatherDims.batchCoord_eq_zero _ _ _ List.not_mem_nil]
  match c with
  | ⟨0, hc⟩ =>
    unfold GatherDims.start
    rw [dif_neg (show ¬ ⟨0, hc⟩ ∈ (columns wf).startIndexMap from fun h => by
      have := congrArg Fin.val (List.mem_singleton.mp h)
      simp at this)]
    show 0 + 0 + r.val = r.val
    omega
  | ⟨1, hc⟩ =>
    unfold GatherDims.start
    rw [dif_neg (show ¬ ⟨1, hc⟩ ∈ (columns wf).startIndexMap from fun h => by
      have := congrArg Fin.val (List.mem_singleton.mp h)
      simp at this)]
    rfl
  | ⟨2, hc⟩ =>
    rw [GatherDims.offCoord_eq_zero _ _ _ (fun h => ((GatherDims.mem_sKept _ _).mp h).1 (List.mem_singleton.mpr rfl))]
    unfold GatherDims.start
    rw [dif_pos (show ⟨2, hc⟩ ∈ (columns wf).startIndexMap from List.mem_singleton.mpr rfl)]
    have hs : (columns wf).siIdx (ix4 r 0 d 0) ⟨List.idxOf ⟨2, hc⟩ (columns wf).startIndexMap,
        List.idxOf_lt_length_iff.2 (List.mem_singleton.mpr rfl)⟩ = ix3 d 0 0 := by
      funext e
      refine Fin.ext ?_
      match e with
      | ⟨0, _⟩ => rfl
      | ⟨1, _⟩ => rfl
      | ⟨2, _⟩ => rfl
    show min (w ((columns wf).siIdx (ix4 r 0 d 0) _)).toInt.toNat (D - 1) + 0 + 0 = i.val
    rw [hs, hi]
    omega

/-- The index words of the columns: the numbers below `D` in order, each negative one wrapped. -/
def columnV {D : Nat} (c : BitVec 32) (h₁ : (⟨1, ![D]⟩ : Shape).ShapeCasts ⟨2, ![D, 1]⟩)
    (h₂ : S₀.BroadcastsInDim ⟨2, ![D, 1]⟩ ![])
    (h₃ : (⟨2, ![D, 1]⟩ : Shape).BroadcastsInDim ⟨3, ![D, 1, 1]⟩ ![0, 1]) : IVec ⟨3, ![D, 1, 1]⟩ 32 :=
  broadcastInDim ⟨3, ![D, 1, 1]⟩ ![0, 1] h₃
    (select (cmpi .slt (shapeCast ⟨2, ![D, 1]⟩ (iotaInDim ⟨1, ![D]⟩ 32 0) h₁) (broadcastInDim ⟨2, ![D, 1]⟩ ![] h₂ (constantI S₀ 32 0#32)))
      (addi (shapeCast ⟨2, ![D, 1]⟩ (iotaInDim ⟨1, ![D]⟩ 32 0) h₁) (broadcastInDim ⟨2, ![D, 1]⟩ ![] h₂ (constantI S₀ 32 c)))
      (shapeCast ⟨2, ![D, 1]⟩ (iotaInDim ⟨1, ![D]⟩ 32 0) h₁))

/-- The index word of column `d` names `d`. -/
theorem columnV_apply {D : Nat} (hs : D < 2 ^ 31) (c : BitVec 32)
    (h₁ : (⟨1, ![D]⟩ : Shape).ShapeCasts ⟨2, ![D, 1]⟩) (h₂ : S₀.BroadcastsInDim ⟨2, ![D, 1]⟩ ![])
    (h₃ : (⟨2, ![D, 1]⟩ : Shape).BroadcastsInDim ⟨3, ![D, 1, 1]⟩ ![0, 1]) (d : Fin D) :
    (columnV c h₁ h₂ h₃ (ix3 d 0 0)).toInt.toNat = d.val := by
  have hd := d.isLt
  have e₁ : Shape.reshapeEquiv h₁ (ix2 d 0) = ix1 d := by
    refine Shape.reshapeEquiv_eq_of_rowMajor h₁ ?_
    rw [rowMajor_val1, rowMajor_val2 _ _ rfl]
    show d.val = d.val * 1 + 0
    ring
  have hi : columnV c h₁ h₂ h₃ (ix3 d 0 0) =
      Scalar.select (IntOp.cmpi .slt (BitVec.ofNat 32 d.val) 0#32) (BitVec.ofNat 32 d.val + c) (BitVec.ofNat 32 d.val) := by
    unfold columnV
    rw [broadcast_at _ h₃ _ _ (ix2 d 0) (fun c => by fin_cases c <;> first | exact Or.inl rfl | exact Or.inr rfl)]
    pointwise []
    rw [e₁]
    rfl
  rw [hi, Routing.wrap_of_lt _ _ (by rw [BitVec.toNat_ofNat]; omega), BitVec.toInt_eq_toNat_of_lt (by rw [BitVec.toNat_ofNat]; omega),
    BitVec.toNat_ofNat]
  omega

/-- What the shapes of `D` leaves of `n` units over `b` rows allow. -/
structure Leafed (D b n : Nat) : Prop where
  scalar : 0 < S₀.numel
  small : D < 2 ^ 31
  order : (⟨1, ![D]⟩ : Shape).ShapeCasts ⟨2, ![D, 1]⟩
  fillOrder : S₀.BroadcastsInDim ⟨2, ![D, 1]⟩ ![]
  standOrder : (⟨2, ![D, 1]⟩ : Shape).BroadcastsInDim ⟨3, ![D, 1, 1]⟩ ![0, 1]
  gather : GatherDims.WF ⟨3, ![b, 1, D]⟩ ⟨3, ![D, 1, 1]⟩ ⟨4, ![b, 1, D, 1]⟩ [0, 1] [2] [] [2] [] 2 ![b, 1, 1]
  turn : (⟨4, ![b, 1, D, 1]⟩ : Shape).Transposes [2, 1, 0, 3] ⟨4, ![D, 1, b, 1]⟩
  standRows : (⟨4, ![D, 1, b, 1]⟩ : Shape).BroadcastsInDim ⟨5, ![D, 1, b, 1, 1]⟩ ![0, 1, 2, 3]
  spreadRows : (⟨5, ![D, 1, b, 1, 1]⟩ : Shape).BroadcastsInDim ⟨5, ![D, 1, b, 1, n]⟩ ![0, 1, 2, 3, 4]
  standMeans : (⟨4, ![D, 1, 1, n]⟩ : Shape).BroadcastsInDim ⟨5, ![D, 1, 1, 1, n]⟩ ![0, 1, 3, 4]
  spreadMeans : (⟨5, ![D, 1, 1, 1, n]⟩ : Shape).BroadcastsInDim ⟨5, ![D, 1, b, 1, n]⟩ ![0, 1, 2, 3, 4]
  axes : (⟨5, ![D, 1, b, 1, n]⟩ : Shape).ReducesTo [1, 3] ⟨3, ![D, b, n]⟩
  fill : S₀.BroadcastsInDim ⟨3, ![D, b, n]⟩ ![]

variable {D b n : Nat} (H : Leafed D b n)

/-- The differences of the rows and the means. -/
def differenceV (c : BitVec 32) (x : FVec Ideal ⟨3, ![b, 1, D]⟩ .f32) (μ : FVec Ideal ⟨4, ![D, 1, 1, n]⟩ .f32) :
    FVec Ideal ⟨5, ![D, 1, b, 1, n]⟩ .f32 :=
  subf (broadcastInDim ⟨5, ![D, 1, b, 1, n]⟩ ![0, 1, 2, 3, 4] H.spreadRows (broadcastInDim ⟨5, ![D, 1, b, 1, 1]⟩ ![0, 1, 2, 3] H.standRows
      (transpose ⟨4, ![D, 1, b, 1]⟩ [2, 1, 0, 3] (Host.gather (columns H.gather) x (columnV c H.order H.fillOrder H.standOrder)) H.turn)))
    (broadcastInDim ⟨5, ![D, 1, b, 1, n]⟩ ![0, 1, 2, 3, 4] H.spreadMeans (broadcastInDim ⟨5, ![D, 1, 1, 1, n]⟩ ![0, 1, 3, 4] H.standMeans μ))

/-- The leaves' log-densities. -/
def leavesV (y : FVec Ideal ⟨5, ![D, 1, b, 1, n]⟩ .f32) : FVec Ideal ⟨3, ![D, b, n]⟩ .f32 :=
  mulf (broadcastInDim ⟨3, ![D, b, n]⟩ ![] H.fill (constant S₀ .f32 0xBF000000#32))
    (Host.reduceAdd (mulf y y) (constant S₀ .f32 0x00000000#32) H.axes H.scalar)

/-- A difference at an index. -/
theorem differenceV_apply (c : BitVec 32) (x : FVec Ideal ⟨3, ![b, 1, D]⟩ .f32) (μ : FVec Ideal ⟨4, ![D, 1, 1, n]⟩ .f32)
    (d : Fin D) (r : Fin b) (k : Fin n) :
    differenceV H c x μ (ix5 d 0 r 0 k) = x (ix3 r 0 d) - μ (ix4 d 0 0 k) := by
  unfold differenceV
  rw [subf_apply, broadcast_at _ H.spreadRows _ _ (ix5 d 0 r 0 0) (fun c => by fin_cases c <;> first | exact Or.inl rfl | exact Or.inr rfl), broadcast_at _ H.standRows _ _ (ix4 d 0 r 0) (fun c => by fin_cases c <;> first | exact Or.inl rfl | exact Or.inr rfl),
    broadcast_at _ H.spreadMeans _ _ (ix5 d 0 0 0 k) (fun c => by fin_cases c <;> first | exact Or.inl rfl | exact Or.inr rfl), broadcast_at _ H.standMeans _ _ (ix4 d 0 0 k) (fun c => by fin_cases c <;> first | exact Or.inl rfl | exact Or.inr rfl)]
  refine congrArg (· - μ (ix4 d 0 0 k)) ?_
  refine Eq.trans ?_ (columns_apply H.gather x (columnV c H.order H.fillOrder H.standOrder) r d d
    (columnV_apply H.small c H.order H.fillOrder H.standOrder d))
  refine congrArg (Host.gather (columns H.gather) x _) (funext fun e => ?_)
  match e with
  | ⟨0, _⟩ => rfl
  | ⟨1, _⟩ => rfl
  | ⟨2, _⟩ => rfl
  | ⟨3, _⟩ => rfl

/-- The only entry that a sum over two axes of size one takes up. -/
theorem unitAxes (h : (⟨5, ![D, 1, b, 1, n]⟩ : Shape).ReducesTo [1, 3] ⟨3, ![D, b, n]⟩) (i : (⟨5, ![D, 1, b, 1, n]⟩ : Shape).Idx)
    (d : Fin D) (r : Fin b) (k : Fin n) : h.drop i = ix3 d r k ↔ i = ix5 d 0 r 0 k := by
  constructor
  · intro e
    funext c
    match c with
    | ⟨0, _⟩ => exact Fin.ext (congrArg Fin.val (congrFun e 0))
    | ⟨1, hc⟩ => exact Fin.ext (Nat.lt_one_iff.mp (i ⟨1, hc⟩).isLt)
    | ⟨2, _⟩ => exact Fin.ext (congrArg Fin.val (congrFun e 1))
    | ⟨3, hc⟩ => exact Fin.ext (Nat.lt_one_iff.mp (i ⟨3, hc⟩).isLt)
    | ⟨4, _⟩ => exact Fin.ext (congrArg Fin.val (congrFun e 2))
  · rintro rfl
    funext c
    match c with
    | ⟨0, _⟩ => rfl
    | ⟨1, _⟩ => rfl
    | ⟨2, _⟩ => rfl

/-- A leaf's log-density at an index. -/
theorem leavesV_apply (y : FVec Ideal ⟨5, ![D, 1, b, 1, n]⟩ .f32) (d : Fin D) (r : Fin b) (k : Fin n) :
    leavesV H y (ix3 d r k) = half * (y (ix5 d 0 r 0 k) * y (ix5 d 0 r 0 k)) := by
  have e : Host.reduceAdd (mulf y y) (constant S₀ .f32 0x00000000#32) H.axes H.scalar (ix3 d r k) =
      y (ix5 d 0 r 0 k) * y (ix5 d 0 r 0 k) := by
    show constant (F := Ideal) S₀ .f32 0x00000000#32 (Shape.Idx.first H.scalar) +
      ∑ i ∈ Finset.univ.filter (fun i => H.axes.drop i = ix3 d r k), mulf y y i = _
    rw [show constant (F := Ideal) S₀ .f32 0x00000000#32 (Shape.Idx.first H.scalar) = 0 from Ideal.ofBits_zero_f32, zero_add,
      Finset.filter_congr fun i _ => unitAxes H.axes i d r k, Finset.filter_eq', if_pos (Finset.mem_univ _), Finset.sum_singleton]
    rfl
  show Ideal.ofBits .f32 0xBF000000#32 * _ = _
  rw [e, ofBits_half]

/-- What is left after the last layer: the one fold taken, and the rows put first. -/
def rootV (w : IVec ⟨3, ![1, 1, 1]⟩ 32)
    (wf : GatherDims.WF ⟨3, ![1, b, n]⟩ ⟨3, ![1, 1, 1]⟩ ⟨4, ![1, 1, b, n]⟩ [2, 3] [0] [] [0] [] 2 ![1, b, n])
    (h₁ : (⟨4, ![1, 1, b, n]⟩ : Shape).ShapeCasts ⟨3, ![1, b, n]⟩) (h₂ : (⟨3, ![1, b, n]⟩ : Shape).Transposes [1, 0, 2] ⟨3, ![b, 1, n]⟩)
    (x : FVec Ideal ⟨3, ![1, b, n]⟩ .f32) : FVec Ideal ⟨3, ![b, 1, n]⟩ .f32 :=
  transpose ⟨3, ![b, 1, n]⟩ [1, 0, 2] (shapeCast ⟨3, ![1, b, n]⟩ (Host.gather (pairs wf) x w) h₁) h₂

/-- The result at an index. -/
theorem rootV_apply (w : IVec ⟨3, ![1, 1, 1]⟩ 32) (hw : (w (ix3 0 0 0)).toInt.toNat = 0)
    (wf : GatherDims.WF ⟨3, ![1, b, n]⟩ ⟨3, ![1, 1, 1]⟩ ⟨4, ![1, 1, b, n]⟩ [2, 3] [0] [] [0] [] 2 ![1, b, n])
    (h₁ : (⟨4, ![1, 1, b, n]⟩ : Shape).ShapeCasts ⟨3, ![1, b, n]⟩) (h₂ : (⟨3, ![1, b, n]⟩ : Shape).Transposes [1, 0, 2] ⟨3, ![b, 1, n]⟩)
    (x : FVec Ideal ⟨3, ![1, b, n]⟩ .f32) (r : Fin b) (k : Fin n) : rootV w wf h₁ h₂ x (ix3 r 0 k) = x (ix3 0 r k) := by
  have e₁ : Shape.reshapeEquiv h₁ (ix3 0 r k) = ix4 0 0 r k := by
    refine Shape.reshapeEquiv_eq_of_rowMajor h₁ ?_
    rw [rowMajor_val4 _ _ _ _ rfl rfl rfl, rowMajor_val3 _ _ _ rfl rfl]
    show 0 * (1 * (b * n)) + 0 * (b * n) + r.val * n + k.val = 0 * (b * n) + r.val * n + k.val
    ring
  refine Eq.trans ?_ ((congrArg (Host.gather (pairs wf) x w) e₁).trans (pairs_apply wf x w 0 0 r k 0 hw))
  rw [← Pointwise.shapeCast_apply (Host.gather (pairs wf) x w) h₁]
  refine congrArg (shapeCast ⟨3, ![1, b, n]⟩ (Host.gather (pairs wf) x w) h₁) (funext fun e => ?_)
  match e with
  | ⟨0, _⟩ => rfl
  | ⟨1, _⟩ => rfl
  | ⟨2, _⟩ => rfl

end Circuit

end
-- ==== Proof.ReferenceStages.lean ====
module

public import proofs.«01_k».proof.Proof.ReferenceLeaves
public import proofs.«01_k».proof.Proof.Gen.ReferenceIdeal.Run

/-!
# What the reference computes

The reference's leaves, nine layers and root, each one of the operations of `ReferenceLayer` and
`ReferenceLeaves` at its number of folds; and its result at an index: the circuit's last level.
-/

@[expose] public section

set_option maxRecDepth 16384

noncomputable section

namespace Circuit

open Idealize.ShloMosaic
open Cert.ReferenceIdeal Cert.ReferenceIdeal.Gen Cert.ReferenceIdeal.Value

/-- The shapes of the leaves. -/
theorem leafed : Leafed 512 1024 32 := by constructor <;> decide

/-- The shapes of layer 0. -/
theorem layered₀ : Layered 512 256 1024 32 := by constructor <;> decide
/-- The shapes of layer 1. -/
theorem layered₁ : Layered 256 128 1024 32 := by constructor <;> decide
/-- The shapes of layer 2. -/
theorem layered₂ : Layered 128 64 1024 32 := by constructor <;> decide
/-- The shapes of layer 3. -/
theorem layered₃ : Layered 64 32 1024 32 := by constructor <;> decide
/-- The shapes of layer 4. -/
theorem layered₄ : Layered 32 16 1024 32 := by constructor <;> decide
/-- The shapes of layer 5. -/
theorem layered₅ : Layered 16 8 1024 32 := by constructor <;> decide
/-- The shapes of layer 6. -/
theorem layered₆ : Layered 8 4 1024 32 := by constructor <;> decide
/-- The shapes of layer 7. -/
theorem layered₇ : Layered 4 2 1024 32 := by constructor <;> decide
/-- The shapes of layer 8. -/
theorem layered₈ : Layered 2 1 1024 32 := by constructor <;> decide

/-- The arrays that the reference is run on. -/
abbrev Args := Valuation τ sig (Elt Ideal)

variable (V : Args)

/-- The parameters among the arguments. -/
def refParams : Params where
  θ₀ := V (Proc.devRef .tc main_arg2)
  θ₁ := V (Proc.devRef .tc main_arg3)
  θ₂ := V (Proc.devRef .tc main_arg4)
  θ₃ := V (Proc.devRef .tc main_arg5)
  θ₄ := V (Proc.devRef .tc main_arg6)
  θ₅ := V (Proc.devRef .tc main_arg7)
  θ₆ := V (Proc.devRef .tc main_arg8)
  θ₇ := V (Proc.devRef .tc main_arg9)
  θ₈ := V (Proc.devRef .tc main_arg10)

/-- The means among the arguments, and a row of the batch. -/
def refMeans : Fin 512 → Fin 32 → EReal := fun d k => (V (Proc.devRef .tc main_arg1) : FVec Ideal ⟨4, ![512, 1, 1, 32]⟩ .f32) (ix4 d 0 0 k)
def refRow (r : Fin 1024) : Fin 512 → EReal := fun d => (V (Proc.devRef .tc main_arg0) : FVec Ideal ⟨3, ![1024, 1, 512]⟩ .f32) (ix3 r 0 d)

/-- The leaves' array, and the array after each layer. -/
def leavesA : FVec Ideal ⟨3, ![512, 1024, 32]⟩ .f32 := leavesV leafed (res_main_v14 V)
def layerA₀ : FVec Ideal ⟨3, ![256, 1024, 32]⟩ .f32 := layerV layered₀ 512#32 (refParams V).θ₀ (leavesA V)
def layerA₁ : FVec Ideal ⟨3, ![128, 1024, 32]⟩ .f32 := layerV layered₁ 256#32 (refParams V).θ₁ (layerA₀ V)
def layerA₂ : FVec Ideal ⟨3, ![64, 1024, 32]⟩ .f32 := layerV layered₂ 128#32 (refParams V).θ₂ (layerA₁ V)
def layerA₃ : FVec Ideal ⟨3, ![32, 1024, 32]⟩ .f32 := layerV layered₃ 64#32 (refParams V).θ₃ (layerA₂ V)
def layerA₄ : FVec Ideal ⟨3, ![16, 1024, 32]⟩ .f32 := layerV layered₄ 32#32 (refParams V).θ₄ (layerA₃ V)
def layerA₅ : FVec Ideal ⟨3, ![8, 1024, 32]⟩ .f32 := layerV layered₅ 16#32 (refParams V).θ₅ (layerA₄ V)
def layerA₆ : FVec Ideal ⟨3, ![4, 1024, 32]⟩ .f32 := layerV layered₆ 8#32 (refParams V).θ₆ (layerA₅ V)
def layerA₇ : FVec Ideal ⟨3, ![2, 1024, 32]⟩ .f32 := layerV layered₇ 4#32 (refParams V).θ₇ (layerA₆ V)
def layerA₈ : FVec Ideal ⟨3, ![1, 1024, 32]⟩ .f32 := layerV layered₈ 2#32 (refParams V).θ₈ (layerA₇ V)

/-- The differences the leaves square. -/
theorem v14_eq : res_main_v14 V = differenceV leafed 512#32 (V (Proc.devRef .tc main_arg0)) (V (Proc.devRef .tc main_arg1)) := rfl

/-- The logits of layer 0. -/
theorem v34_eq : res_main_v34 V = logitsV layered₀ 512#32 (refParams V).θ₀ (leavesA V) := rfl
/-- The logits of layer 1. -/
theorem v62_eq : res_main_v62 V = logitsV layered₁ 256#32 (refParams V).θ₁ (logSumExpV layered₀ (res_main_v34 V)) := rfl
/-- The logits of layer 2. -/
theorem v90_eq : res_main_v90 V = logitsV layered₂ 128#32 (refParams V).θ₂ (logSumExpV layered₁ (res_main_v62 V)) := rfl
/-- The logits of layer 3. -/
theorem v118_eq : res_main_v118 V = logitsV layered₃ 64#32 (refParams V).θ₃ (logSumExpV layered₂ (res_main_v90 V)) := rfl
/-- The logits of layer 4. -/
theorem v146_eq : res_main_v146 V = logitsV layered₄ 32#32 (refParams V).θ₄ (logSumExpV layered₃ (res_main_v118 V)) := rfl
/-- The logits of layer 5. -/
theorem v174_eq : res_main_v174 V = logitsV layered₅ 16#32 (refParams V).θ₅ (logSumExpV layered₄ (res_main_v146 V)) := rfl
/-- The logits of layer 6. -/
theorem v202_eq : res_main_v202 V = logitsV layered₆ 8#32 (refParams V).θ₆ (logSumExpV layered₅ (res_main_v174 V)) := rfl
/-- The logits of layer 7. -/
theorem v230_eq : res_main_v230 V = logitsV layered₇ 4#32 (refParams V).θ₇ (logSumExpV layered₆ (res_main_v202 V)) := rfl
/-- The logits of layer 8. -/
theorem v258_eq : res_main_v258 V = logitsV layered₈ 2#32 (refParams V).θ₈ (logSumExpV layered₇ (res_main_v230 V)) := rfl

/-- The log-sum-exp of the last logits is the array after the last layer. -/
theorem last_eq : logSumExpV layered₈ (res_main_v258 V) = layerA₈ V := by
  rw [v258_eq, v230_eq, v202_eq, v174_eq, v146_eq, v118_eq, v90_eq, v62_eq, v34_eq]
  rfl

/-- The leaves at an index. -/
theorem leavesA_apply (r : Fin 1024) (d : Fin 512) (k : Fin 32) : leavesA V (ix3 d r k) = leaf (refMeans V) (refRow V r) d k := by
  unfold leavesA
  rw [leavesV_apply, v14_eq, differenceV_apply]
  rfl

/-- The array after each layer, at an index. -/
theorem layerA₀_apply (r : Fin 1024) (a : Fin 256) (j : Fin 32) :
    layerA₀ V (ix3 a r j) = level₀ (refParams V) (refMeans V) (refRow V r) a j :=
  layerV_apply layered₀ _ _ _ (fun r => leaf (refMeans V) (refRow V r)) (leavesA_apply V) r a j
theorem layerA₁_apply (r : Fin 1024) (a : Fin 128) (j : Fin 32) :
    layerA₁ V (ix3 a r j) = level₁ (refParams V) (refMeans V) (refRow V r) a j :=
  layerV_apply layered₁ _ _ _ (fun r => level₀ (refParams V) (refMeans V) (refRow V r)) (layerA₀_apply V) r a j
theorem layerA₂_apply (r : Fin 1024) (a : Fin 64) (j : Fin 32) :
    layerA₂ V (ix3 a r j) = level₂ (refParams V) (refMeans V) (refRow V r) a j :=
  layerV_apply layered₂ _ _ _ (fun r => level₁ (refParams V) (refMeans V) (refRow V r)) (layerA₁_apply V) r a j
theorem layerA₃_apply (r : Fin 1024) (a : Fin 32) (j : Fin 32) :
    layerA₃ V (ix3 a r j) = level₃ (refParams V) (refMeans V) (refRow V r) a j :=
  layerV_apply layered₃ _ _ _ (fun r => level₂ (refParams V) (refMeans V) (refRow V r)) (layerA₂_apply V) r a j
theorem layerA₄_apply (r : Fin 1024) (a : Fin 16) (j : Fin 32) :
    layerA₄ V (ix3 a r j) = level₄ (refParams V) (refMeans V) (refRow V r) a j :=
  layerV_apply layered₄ _ _ _ (fun r => level₃ (refParams V) (refMeans V) (refRow V r)) (layerA₃_apply V) r a j
theorem layerA₅_apply (r : Fin 1024) (a : Fin 8) (j : Fin 32) :
    layerA₅ V (ix3 a r j) = level₅ (refParams V) (refMeans V) (refRow V r) a j :=
  layerV_apply layered₅ _ _ _ (fun r => level₄ (refParams V) (refMeans V) (refRow V r)) (layerA₄_apply V) r a j
theorem layerA₆_apply (r : Fin 1024) (a : Fin 4) (j : Fin 32) :
    layerA₆ V (ix3 a r j) = level₆ (refParams V) (refMeans V) (refRow V r) a j :=
  layerV_apply layered₆ _ _ _ (fun r => level₅ (refParams V) (refMeans V) (refRow V r)) (layerA₅_apply V) r a j
theorem layerA₇_apply (r : Fin 1024) (a : Fin 2) (j : Fin 32) :
    layerA₇ V (ix3 a r j) = level₇ (refParams V) (refMeans V) (refRow V r) a j :=
  layerV_apply layered₇ _ _ _ (fun r => level₆ (refParams V) (refMeans V) (refRow V r)) (layerA₆_apply V) r a j
theorem layerA₈_apply (r : Fin 1024) (a : Fin 1) (j : Fin 32) :
    layerA₈ V (ix3 a r j) = level₈ (refParams V) (refMeans V) (refRow V r) a j :=
  layerV_apply layered₈ _ _ _ (fun r => level₇ (refParams V) (refMeans V) (refRow V r)) (layerA₇_apply V) r a j

/-- The index word of the root. -/
def rootWord : IVec ⟨3, ![1, 1, 1]⟩ 32 :=
  broadcastInDim S1x1x1 ![0, 1] bcast_S1x1_S1x1x1_0_1 (select (cmpi .slt (res_main_c V) (broadcastInDim S1x1 ![] bcast_S_S1x1 (constantI S_ 32 0#32)))
    (addi (res_main_c V) (broadcastInDim S1x1 ![] bcast_S_S1x1 (constantI S_ 32 1#32))) (res_main_c V))

/-- The reference's result. -/
def resultA : FVec Ideal ⟨3, ![1024, 1, 32]⟩ .f32 :=
  rootV (rootWord V) gather_S1x1024x32_S1x1x1_S1x1x1024x32_23_0_n_n_0_2_1102432_wf shapeCasts_S1x1x1024x32_S1x1024x32
    transposes_S1x1024x32_S1024x1x32_1_0_2 (logSumExpV layered₈ (res_main_v258 V))

/-- The reference's result at an index: the last level of the circuit. -/
theorem resultA_apply (r : Fin 1024) (j : Fin 32) :
    resultA V (ix3 r 0 j) = level₈ (refParams V) (refMeans V) (refRow V r) 0 j := by
  unfold resultA
  rw [rootV_apply _ rfl, last_eq, layerA₈_apply]

end Circuit

end
-- ==== Proof.KernelLayer.lean ====
module

public import proofs.«01_k».proof.Proof.Circuit
public import Idealize.ShloMosaic.Lib.Pointwise
public import Idealize.ShloMosaic.Lib.Pointwise.IndexVar

/-!
# One layer of the kernel, at any number of folds

The vector operations of one layer of the kernel, as functions of the arrays they take, with the
number of folds a variable; and each read at an index.
-/

@[expose] public section

set_option maxRecDepth 16384

noncomputable section

namespace Circuit

open Idealize.ShloMosaic

/-- The even (`o = 0`) or odd (`o = 1`) folds of an array `[F, k, l]` with `F = 2 f`. -/
def half2 {F f k l : Nat} (o : Nat) (v : FVec Ideal ⟨3, ![F, k, l]⟩ .f32)
    (h₁ : (⟨3, ![F, k, l]⟩ : Shape).ShapeCasts ⟨4, ![f, 2, k, l]⟩)
    (h₂ : (⟨4, ![f, 2, k, l]⟩ : Shape).Slices ![0, o, 0, 0] ⟨4, ![f, 1, k, l]⟩)
    (h₃ : (⟨4, ![f, 1, k, l]⟩ : Shape).ShapeCasts ⟨3, ![f, k, l]⟩) : FVec Ideal ⟨3, ![f, k, l]⟩ .f32 :=
  shapeCast _ (extractStridedSlice _ ![0, o, 0, 0] (shapeCast _ v h₁) h₂) h₃

/-- Fold `a` of the even or odd folds is fold `2 a + o`. -/
theorem half2_apply {F f k l : Nat} (o : Nat) (v : FVec Ideal ⟨3, ![F, k, l]⟩ .f32)
    (h₁ : (⟨3, ![F, k, l]⟩ : Shape).ShapeCasts ⟨4, ![f, 2, k, l]⟩)
    (h₂ : (⟨4, ![f, 2, k, l]⟩ : Shape).Slices ![0, o, 0, 0] ⟨4, ![f, 1, k, l]⟩)
    (h₃ : (⟨4, ![f, 1, k, l]⟩ : Shape).ShapeCasts ⟨3, ![f, k, l]⟩)
    (a : Fin f) (j : Fin k) (b : Fin l) (i : Fin F) (hi : i.val = 2 * a.val + o) :
    half2 o v h₁ h₂ h₃ (ix3 a j b) = v (ix3 i j b) := by
  have e₃ : Shape.reshapeEquiv h₃ (ix3 a j b) = ix4 a 0 j b := by
    refine Shape.reshapeEquiv_eq_of_rowMajor h₃ ?_
    rw [rowMajor_val4 _ _ _ _ rfl rfl rfl, rowMajor_val3 _ _ _ rfl rfl]
    show a.val * (1 * (k * l)) + 0 * (k * l) + j.val * l + b.val = a.val * (k * l) + j.val * l + b.val
    ring
  unfold half2
  rw [Pointwise.shapeCast_apply, e₃, Pointwise.extractStridedSlice_apply, Pointwise.shapeCast_apply]
  refine congrArg v (Shape.reshapeEquiv_eq_of_rowMajor h₁ ?_)
  rw [rowMajor_val4 _ _ _ _ rfl rfl rfl, rowMajor_val3 _ _ _ rfl rfl]
  show i.val * (k * l) + j.val * l + b.val =
    (0 + a.val) * (2 * (k * l)) + (o + 0) * (k * l) + (0 + j.val) * l + (0 + b.val)
  rw [hi]
  ring

/-- The even (`o = 0`) or odd (`o = 1`) rows of an array given as `[f, 2, l]`. -/
def row2 {f l : Nat} (o : Nat) (v : FVec Ideal ⟨3, ![f, 2, l]⟩ .f32)
    (h₂ : (⟨3, ![f, 2, l]⟩ : Shape).Slices ![0, o, 0] ⟨3, ![f, 1, l]⟩)
    (h₃ : (⟨3, ![f, 1, l]⟩ : Shape).ShapeCasts ⟨2, ![f, l]⟩) : FVec Ideal ⟨2, ![f, l]⟩ .f32 :=
  shapeCast _ (extractStridedSlice _ ![0, o, 0] v h₂) h₃

/-- Row `a` of the even or odd rows. -/
theorem row2_apply {f l : Nat} (o : Fin 2) (v : FVec Ideal ⟨3, ![f, 2, l]⟩ .f32)
    (h₂ : (⟨3, ![f, 2, l]⟩ : Shape).Slices ![0, o.val, 0] ⟨3, ![f, 1, l]⟩)
    (h₃ : (⟨3, ![f, 1, l]⟩ : Shape).ShapeCasts ⟨2, ![f, l]⟩) (a : Fin f) (b : Fin l) :
    row2 o.val v h₂ h₃ (ix2 a b) = v (ix3 a o b) := by
  have e₃ : Shape.reshapeEquiv h₃ (ix2 a b) = ix3 a 0 b := by
    refine Shape.reshapeEquiv_eq_of_rowMajor h₃ ?_
    rw [rowMajor_val3 _ _ _ rfl rfl, rowMajor_val2 _ _ rfl]
    show a.val * (1 * l) + 0 * l + b.val = a.val * l + b.val
    ring
  unfold row2
  rw [Pointwise.shapeCast_apply, e₃, Pointwise.extractStridedSlice_apply]
  refine congrArg v (funext fun c => ?_)
  match c with
  | ⟨0, _⟩ => exact Fin.ext (Nat.zero_add a.val)
  | ⟨1, _⟩ => exact Fin.ext (Nat.add_zero o.val)
  | ⟨2, _⟩ => exact Fin.ext (Nat.zero_add b.val)

/-- An array of `F = 2 f` rows given as `[f, 2, l]`. -/
theorem split_apply {α : Type} {F f l : Nat} (y : (⟨2, ![F, l]⟩ : Shape).Idx → α)
    (h : (⟨2, ![F, l]⟩ : Shape).ShapeCasts ⟨3, ![f, 2, l]⟩) (a : Fin f) (o : Fin 2) (b : Fin l) (i : Fin F)
    (hi : i.val = 2 * a.val + o.val) : shapeCast _ y h (ix3 a o b) = y (ix2 i b) := by
  rw [Pointwise.shapeCast_apply]
  refine congrArg y (Shape.reshapeEquiv_eq_of_rowMajor h ?_)
  rw [rowMajor_val3 _ _ _ rfl rfl, rowMajor_val2 _ _ rfl]
  show i.val * l + b.val = a.val * (2 * l) + o.val * l + b.val
  rw [hi]
  ring

/-- An array of rows given a middle axis of size one. -/
theorem widen_apply {α : Type} {f l : Nat} (y : (⟨2, ![f, l]⟩ : Shape).Idx → α)
    (h : (⟨2, ![f, l]⟩ : Shape).ShapeCasts ⟨3, ![f, 1, l]⟩) (a : Fin f) (b : Fin l) :
    shapeCast _ y h (ix3 a 0 b) = y (ix2 a b) := by
  rw [Pointwise.shapeCast_apply]
  refine congrArg y (Shape.reshapeEquiv_eq_of_rowMajor h ?_)
  rw [rowMajor_val3 _ _ _ rfl rfl, rowMajor_val2 _ _ rfl]
  show a.val * l + b.val = a.val * (1 * l) + 0 * l + b.val
  ring

/-- The dimension numbers of a product of `f` matrices `[j, k]` by `f` matrices `[k, l]`. -/
abbrev batched {f j k l : Nat}
    (wf : DotDims.WF ⟨3, ![f, j, k]⟩ ⟨3, ![f, k, l]⟩ ⟨3, ![f, j, l]⟩ [2] [1] [1] [2] [0] [0]) :
    DotDims ⟨3, ![f, j, k]⟩ ⟨3, ![f, k, l]⟩ ⟨3, ![f, j, l]⟩ :=
  ⟨[2], [1], [1], [2], [0], [0], wf⟩

/-- A product of `f` matrices at an index is the sum over the contracted axis. -/
theorem batched_apply {φ₁ φ₂ : FTy} {f j k l : Nat}
    (wf : DotDims.WF ⟨3, ![f, j, k]⟩ ⟨3, ![f, k, l]⟩ ⟨3, ![f, j, l]⟩ [2] [1] [1] [2] [0] [0])
    (x : FVec Ideal ⟨3, ![f, j, k]⟩ φ₁) (y : FVec Ideal ⟨3, ![f, k, l]⟩ φ₂)
    (a : Fin f) (r : Fin j) (b : Fin l) :
    matmul (batched wf) none x y (constant (F := Ideal) ⟨3, ![f, j, l]⟩ .f32 0x00000000#32) (ix3 a r b) =
      ∑ i, x (ix3 a r i) * y (ix3 a i b) := by
  show Ideal.matmul (batched wf) x y _ _ = _
  rw [Ideal.matmul_apply₁_of (batched wf) (a := 2) rfl (K := k) rfl x y _ _
    (fun i => ix3 a r i) (fun i => ix3 a i b)]
  · rw [constant_apply]
    simp [Ideal.ofBits_zero_f32]
  · intro i
    funext c
    fin_cases c <;> rfl
  · intro i
    funext c
    fin_cases c <;> rfl

/-- A middle axis of size one, spread: every row is the one row. -/
theorem spread_row {α : Type} {f k l : Nat} (x : (⟨3, ![f, 1, l]⟩ : Shape).Idx → α)
    (h : (⟨3, ![f, 1, l]⟩ : Shape).Broadcasts ⟨3, ![f, k, l]⟩) (a : Fin f) (j : Fin k) (b : Fin l) :
    broadcastTo _ x h (ix3 a j b) = x (ix3 a 0 b) := by
  rw [Pointwise.broadcastTo_apply]
  refine congrArg x (funext fun c => ?_)
  match c with
  | ⟨0, _⟩ =>
    exact Fin.ext (coordinate a _ _ fun _ => rfl)
  | ⟨1, _⟩ => rfl
  | ⟨2, _⟩ =>
    exact Fin.ext (coordinate b _ _ fun _ => rfl)

/-- A last axis of size one, spread: every column is the one column. -/
theorem spread_column {α : Type} {f j k : Nat} (x : (⟨3, ![f, j, 1]⟩ : Shape).Idx → α)
    (h : (⟨3, ![f, j, 1]⟩ : Shape).Broadcasts ⟨3, ![f, j, k]⟩) (a : Fin f) (r : Fin j) (b : Fin k) :
    broadcastTo _ x h (ix3 a r b) = x (ix3 a r 0) := by
  rw [Pointwise.broadcastTo_apply]
  refine congrArg x (funext fun c => ?_)
  match c with
  | ⟨0, _⟩ =>
    exact Fin.ext (coordinate a _ _ fun _ => rfl)
  | ⟨1, _⟩ =>
    exact Fin.ext (coordinate r _ _ fun _ => rfl)
  | ⟨2, _⟩ => rfl

/-- An array of ones. -/
abbrev onesV (s : Shape) : FVec Ideal s .f32 := broadcast s (Scalar.ofBits (F := Ideal) .f32 0x3F800000#32)

/-- An array of zeros. -/
abbrev zerosV (s : Shape) : FVec Ideal s .f32 := constant (F := Ideal) s .f32 0x00000000#32

/-- Every entry of the array of ones is one. -/
theorem onesV_apply (s : Shape) (i : s.Idx) : onesV s i = 1 := Ideal.ofBits_one_f32

/-- A layer's weights: the exponentials of its parameters, each row divided by its sum. -/
def weightV {f n : Nat} (θ : FVec Ideal ⟨3, ![f, n, n]⟩ .f32)
    (wf : DotDims.WF ⟨3, ![f, n, n]⟩ ⟨3, ![f, n, 1]⟩ ⟨3, ![f, n, 1]⟩ [2] [1] [1] [2] [0] [0])
    (hb : (⟨3, ![f, n, 1]⟩ : Shape).Broadcasts ⟨3, ![f, n, n]⟩)
    (ht : FTy.bits .bf16 < FTy.bits .f32) : FVec Ideal ⟨3, ![f, n, n]⟩ .bf16 :=
  truncf .bf16 (mulf (exp θ) (broadcastTo _ (divf (onesV _)
    (matmul (batched wf) none (exp θ) (onesV _) (zerosV _))) hb)) ht

/-- The weight at an index. -/
theorem weightV_apply {f n : Nat} (θ : FVec Ideal ⟨3, ![f, n, n]⟩ .f32)
    (wf : DotDims.WF ⟨3, ![f, n, n]⟩ ⟨3, ![f, n, 1]⟩ ⟨3, ![f, n, 1]⟩ [2] [1] [1] [2] [0] [0])
    (hb : (⟨3, ![f, n, 1]⟩ : Shape).Broadcasts ⟨3, ![f, n, n]⟩)
    (ht : FTy.bits .bf16 < FTy.bits .f32) (a : Fin f) (j k : Fin n) :
    weightV θ wf hb ht (ix3 a j k) = weight (fun k => θ (ix3 a j k)) k := by
  show Ideal.exp (θ (ix3 a j k)) * broadcastTo _ _ hb (ix3 a j k) = _
  rw [spread_column]
  have ht := batched_apply wf (exp θ) (onesV _) a j 0
  simp only [onesV_apply, mul_one] at ht
  show Ideal.exp (θ (ix3 a j k)) * Ideal.div (onesV ⟨3, ![f, n, 1]⟩ (ix3 a j 0)) _ = _
  rw [onesV_apply]
  exact congrArg (fun t => Ideal.exp (θ (ix3 a j k)) * Ideal.div 1 t) ht

/-- The product of each pair of folds. -/
def pairV {F f k l : Nat} (v : FVec Ideal ⟨3, ![F, k, l]⟩ .f32)
    (h₁ : (⟨3, ![F, k, l]⟩ : Shape).ShapeCasts ⟨4, ![f, 2, k, l]⟩)
    (h₂ : (⟨4, ![f, 2, k, l]⟩ : Shape).Slices ![0, 0, 0, 0] ⟨4, ![f, 1, k, l]⟩)
    (h₂' : (⟨4, ![f, 2, k, l]⟩ : Shape).Slices ![0, 1, 0, 0] ⟨4, ![f, 1, k, l]⟩)
    (h₃ : (⟨4, ![f, 1, k, l]⟩ : Shape).ShapeCasts ⟨3, ![f, k, l]⟩) : FVec Ideal ⟨3, ![f, k, l]⟩ .f32 :=
  mulf (half2 0 v h₁ h₂ h₃) (half2 1 v h₁ h₂' h₃)

/-- The sum of each fold over its nodes. -/
def totalV {f k l : Nat} (v : FVec Ideal ⟨3, ![f, k, l]⟩ .f32)
    (wf : DotDims.WF ⟨3, ![f, 1, k]⟩ ⟨3, ![f, k, l]⟩ ⟨3, ![f, 1, l]⟩ [2] [1] [1] [2] [0] [0]) :
    FVec Ideal ⟨3, ![f, 1, l]⟩ .f32 :=
  matmul (batched wf) none (onesV _) v (zerosV _)

/-- The sum of a fold, at an index. -/
theorem totalV_apply {f k l : Nat} (v : FVec Ideal ⟨3, ![f, k, l]⟩ .f32)
    (wf : DotDims.WF ⟨3, ![f, 1, k]⟩ ⟨3, ![f, k, l]⟩ ⟨3, ![f, 1, l]⟩ [2] [1] [1] [2] [0] [0]) (a : Fin f) (b : Fin l) :
    totalV v wf (ix3 a 0 b) = ∑ j, v (ix3 a j b) := by
  unfold totalV
  rw [batched_apply]
  simp only [onesV_apply, one_mul]

/-- Each fold divided by its sum. -/
def normV {f k l : Nat} (v : FVec Ideal ⟨3, ![f, k, l]⟩ .f32) (t : FVec Ideal ⟨3, ![f, 1, l]⟩ .f32)
    (hb : (⟨3, ![f, 1, l]⟩ : Shape).Broadcasts ⟨3, ![f, k, l]⟩)
    (ht : FTy.bits .bf16 < FTy.bits .f32) : FVec Ideal ⟨3, ![f, k, l]⟩ .bf16 :=
  truncf .bf16 (mulf v (broadcastTo _ (divf (onesV _) t) hb)) ht

/-- The mixtures of each fold: its weights times its values. -/
def mixV {f k l : Nat} (w : FVec Ideal ⟨3, ![f, k, k]⟩ .bf16) (e : FVec Ideal ⟨3, ![f, k, l]⟩ .bf16)
    (wf : DotDims.WF ⟨3, ![f, k, k]⟩ ⟨3, ![f, k, l]⟩ ⟨3, ![f, k, l]⟩ [2] [1] [1] [2] [0] [0]) :
    FVec Ideal ⟨3, ![f, k, l]⟩ .f32 :=
  matmul (batched wf) none w e (zerosV _)

/-- The offset of each pair of folds: the sum of the two offsets and of the logarithm of the sum divided out. -/
def offsetV {F f l : Nat} (m : FVec Ideal ⟨3, ![F, 1, l]⟩ .f32) (t : FVec Ideal ⟨3, ![f, 1, l]⟩ .f32)
    (h₁ : (⟨3, ![F, 1, l]⟩ : Shape).ShapeCasts ⟨4, ![f, 2, 1, l]⟩)
    (h₂ : (⟨4, ![f, 2, 1, l]⟩ : Shape).Slices ![0, 0, 0, 0] ⟨4, ![f, 1, 1, l]⟩)
    (h₂' : (⟨4, ![f, 2, 1, l]⟩ : Shape).Slices ![0, 1, 0, 0] ⟨4, ![f, 1, 1, l]⟩)
    (h₃ : (⟨4, ![f, 1, 1, l]⟩ : Shape).ShapeCasts ⟨3, ![f, 1, l]⟩) : FVec Ideal ⟨3, ![f, 1, l]⟩ .f32 :=
  addf (addf (half2 0 m h₁ h₂ h₃) (half2 1 m h₁ h₂' h₃)) (log t)

/-- An offset and values that carry the log-densities `C`, for every fold and every row of the batch. -/
def State {F n l : Nat} (C : Fin l → Fin F → Fin n → EReal) (m : FVec Ideal ⟨3, ![F, 1, l]⟩ .f32)
    (v : FVec Ideal ⟨3, ![F, n, l]⟩ .f32) : Prop :=
  ∀ b a, Carries (C b a) (m (ix3 a 0 b)) fun k => v (ix3 a k b)

/-- The mixtures of values that carry `C` carry the mixtures of `C`. -/
theorem State.mix {f n l : Nat} {C : Fin l → Fin f → Fin n → EReal} {m : FVec Ideal ⟨3, ![f, 1, l]⟩ .f32}
    {e : FVec Ideal ⟨3, ![f, n, l]⟩ .bf16} (h : ∀ b a, Carries (C b a) (m (ix3 a 0 b)) fun k => e (ix3 a k b))
    (θ : FVec Ideal ⟨3, ![f, n, n]⟩ .f32) (w : FVec Ideal ⟨3, ![f, n, n]⟩ .bf16)
    (hw : ∀ a j k, w (ix3 a j k) = weight (fun k => θ (ix3 a j k)) k)
    (wf : DotDims.WF ⟨3, ![f, n, n]⟩ ⟨3, ![f, n, l]⟩ ⟨3, ![f, n, l]⟩ [2] [1] [1] [2] [0] [0]) :
    State (fun b a j => mixture (fun k => θ (ix3 a j k)) (C b a)) m (mixV w e wf) := by
  intro b a
  have key := (h b a).mixture fun j k => θ (ix3 a j k)
  have hv : (fun j => mixV w e wf (ix3 a j b)) =
      fun j => ∑ k, weight (fun k => θ (ix3 a j k)) k * e (ix3 a k b) := by
    funext j
    unfold mixV
    rw [batched_apply]
    simp only [hw]
  rw [hv]
  exact key

/-- One layer: from an offset and values that carry `C`, the layer's new offset and values carry `up θ C`. -/
theorem State.layer {F f n l : Nat} (hF : F = 2 * f) {C : Fin l → Fin F → Fin n → EReal}
    {m : FVec Ideal ⟨3, ![F, 1, l]⟩ .f32} {v : FVec Ideal ⟨3, ![F, n, l]⟩ .f32} (h : State C m v)
    (θ : FVec Ideal ⟨3, ![f, n, n]⟩ .f32) (w : FVec Ideal ⟨3, ![f, n, n]⟩ .bf16)
    (hw : ∀ a j k, w (ix3 a j k) = weight (fun k => θ (ix3 a j k)) k)
    (h₁ : (⟨3, ![F, n, l]⟩ : Shape).ShapeCasts ⟨4, ![f, 2, n, l]⟩)
    (h₂ : (⟨4, ![f, 2, n, l]⟩ : Shape).Slices ![0, 0, 0, 0] ⟨4, ![f, 1, n, l]⟩)
    (h₂' : (⟨4, ![f, 2, n, l]⟩ : Shape).Slices ![0, 1, 0, 0] ⟨4, ![f, 1, n, l]⟩)
    (h₃ : (⟨4, ![f, 1, n, l]⟩ : Shape).ShapeCasts ⟨3, ![f, n, l]⟩)
    (g₁ : (⟨3, ![F, 1, l]⟩ : Shape).ShapeCasts ⟨4, ![f, 2, 1, l]⟩)
    (g₂ : (⟨4, ![f, 2, 1, l]⟩ : Shape).Slices ![0, 0, 0, 0] ⟨4, ![f, 1, 1, l]⟩)
    (g₂' : (⟨4, ![f, 2, 1, l]⟩ : Shape).Slices ![0, 1, 0, 0] ⟨4, ![f, 1, 1, l]⟩)
    (g₃ : (⟨4, ![f, 1, 1, l]⟩ : Shape).ShapeCasts ⟨3, ![f, 1, l]⟩)
    (wt : DotDims.WF ⟨3, ![f, 1, n]⟩ ⟨3, ![f, n, l]⟩ ⟨3, ![f, 1, l]⟩ [2] [1] [1] [2] [0] [0])
    (wm : DotDims.WF ⟨3, ![f, n, n]⟩ ⟨3, ![f, n, l]⟩ ⟨3, ![f, n, l]⟩ [2] [1] [1] [2] [0] [0])
    (hb : (⟨3, ![f, 1, l]⟩ : Shape).Broadcasts ⟨3, ![f, n, l]⟩) (ht : FTy.bits .bf16 < FTy.bits .f32) :
    State (fun b => up hF (fun a j k => θ (ix3 a j k)) (C b))
      (offsetV m (totalV (pairV v h₁ h₂ h₂' h₃) wt) g₁ g₂ g₂' g₃)
      (mixV w (normV (pairV v h₁ h₂ h₂' h₃) (totalV (pairV v h₁ h₂ h₂' h₃) wt) hb ht) wm) := by
  refine State.mix (C := fun b a k => C b ⟨2 * a.val + 0, by omega⟩ k + C b ⟨2 * a.val + 1, by omega⟩ k) ?_ θ w hw wm
  intro b a
  have key := (h b ⟨2 * a.val + 0, by omega⟩).product (h b ⟨2 * a.val + 1, by omega⟩)
  have hp : ∀ k, pairV v h₁ h₂ h₂' h₃ (ix3 a k b) =
      v (ix3 ⟨2 * a.val + 0, by omega⟩ k b) * v (ix3 ⟨2 * a.val + 1, by omega⟩ k b) := by
    intro k
    show half2 0 v h₁ h₂ h₃ (ix3 a k b) * half2 1 v h₁ h₂' h₃ (ix3 a k b) = _
    rw [half2_apply 0 v h₁ h₂ h₃ a k b ⟨2 * a.val + 0, by omega⟩ rfl,
      half2_apply 1 v h₁ h₂' h₃ a k b ⟨2 * a.val + 1, by omega⟩ rfl]
  have hs := totalV_apply (pairV v h₁ h₂ h₂' h₃) wt a b
  simp only [hp] at hs
  have hm : offsetV m (totalV (pairV v h₁ h₂ h₂' h₃) wt) g₁ g₂ g₂' g₃ (ix3 a 0 b) =
      m (ix3 ⟨2 * a.val + 0, by omega⟩ 0 b) + m (ix3 ⟨2 * a.val + 1, by omega⟩ 0 b) +
        Ideal.log (∑ k, v (ix3 ⟨2 * a.val + 0, by omega⟩ k b) * v (ix3 ⟨2 * a.val + 1, by omega⟩ k b)) := by
    show half2 0 m g₁ g₂ g₃ (ix3 a 0 b) + half2 1 m g₁ g₂' g₃ (ix3 a 0 b) +
      Ideal.log (totalV (pairV v h₁ h₂ h₂' h₃) wt (ix3 a 0 b)) = _
    rw [hs, half2_apply 0 m g₁ g₂ g₃ a 0 b ⟨2 * a.val + 0, by omega⟩ rfl,
      half2_apply 1 m g₁ g₂' g₃ a 0 b ⟨2 * a.val + 1, by omega⟩ rfl]
  have he : (fun k => normV (pairV v h₁ h₂ h₂' h₃) (totalV (pairV v h₁ h₂ h₂' h₃) wt) hb ht (ix3 a k b)) =
      fun k => v (ix3 ⟨2 * a.val + 0, by omega⟩ k b) * v (ix3 ⟨2 * a.val + 1, by omega⟩ k b) *
        Ideal.div 1 (∑ k, v (ix3 ⟨2 * a.val + 0, by omega⟩ k b) * v (ix3 ⟨2 * a.val + 1, by omega⟩ k b)) := by
    funext k
    show pairV v h₁ h₂ h₂' h₃ (ix3 a k b) * broadcastTo _ _ hb (ix3 a k b) = _
    rw [spread_row, hp]
    show _ * Ideal.div (onesV _ (ix3 a 0 b)) (totalV (pairV v h₁ h₂ h₂' h₃) wt (ix3 a 0 b)) = _
    rw [onesV_apply, hs]
  rw [hm, he]
  exact key

end Circuit

end
-- ==== Proof.KernelStages.lean ====
module

public import proofs.«01_k».proof.Proof.KernelLayer
public import proofs.«01_k».proof.Proof.Gen.KernelIdeal.Skeleton

/-!
# The kernel's nine layers

What the kernel stores is its nine layers in order, each an instance of the layer of `KernelLayer`;
so the values it stores are the reference's recursion `up`, nine times.
-/

@[expose] public section

set_option maxRecDepth 16384

noncomputable section

namespace Circuit

open Idealize.ShloMosaic Cert.KernelIdeal.Gen Cert.KernelIdeal

/-- The sizes of one layer of the kernel, from `F` folds to `f`, agree. -/
structure Sizes (F f : Nat) : Prop where
  half : F = 2 * f
  cast : (⟨3, ![F, 32, 512]⟩ : Shape).ShapeCasts ⟨4, ![f, 2, 32, 512]⟩
  even : (⟨4, ![f, 2, 32, 512]⟩ : Shape).Slices ![0, 0, 0, 0] ⟨4, ![f, 1, 32, 512]⟩
  odd : (⟨4, ![f, 2, 32, 512]⟩ : Shape).Slices ![0, 1, 0, 0] ⟨4, ![f, 1, 32, 512]⟩
  back : (⟨4, ![f, 1, 32, 512]⟩ : Shape).ShapeCasts ⟨3, ![f, 32, 512]⟩
  castRow : (⟨3, ![F, 1, 512]⟩ : Shape).ShapeCasts ⟨4, ![f, 2, 1, 512]⟩
  evenRow : (⟨4, ![f, 2, 1, 512]⟩ : Shape).Slices ![0, 0, 0, 0] ⟨4, ![f, 1, 1, 512]⟩
  oddRow : (⟨4, ![f, 2, 1, 512]⟩ : Shape).Slices ![0, 1, 0, 0] ⟨4, ![f, 1, 1, 512]⟩
  backRow : (⟨4, ![f, 1, 1, 512]⟩ : Shape).ShapeCasts ⟨3, ![f, 1, 512]⟩
  total : DotDims.WF ⟨3, ![f, 1, 32]⟩ ⟨3, ![f, 32, 512]⟩ ⟨3, ![f, 1, 512]⟩ [2] [1] [1] [2] [0] [0]
  mix : DotDims.WF ⟨3, ![f, 32, 32]⟩ ⟨3, ![f, 32, 512]⟩ ⟨3, ![f, 32, 512]⟩ [2] [1] [1] [2] [0] [0]
  spread : (⟨3, ![f, 1, 512]⟩ : Shape).Broadcasts ⟨3, ![f, 32, 512]⟩
  narrow : FTy.bits .bf16 < FTy.bits .f32

theorem sizes₁ : Sizes 256 128 := by constructor <;> decide
theorem sizes₂ : Sizes 128 64 := by constructor <;> decide
theorem sizes₃ : Sizes 64 32 := by constructor <;> decide
theorem sizes₄ : Sizes 32 16 := by constructor <;> decide
theorem sizes₅ : Sizes 16 8 := by constructor <;> decide
theorem sizes₆ : Sizes 8 4 := by constructor <;> decide
theorem sizes₇ : Sizes 4 2 := by constructor <;> decide
theorem sizes₈ : Sizes 2 1 := by constructor <;> decide

/-- The layer's sum of each pair's product. -/
def nextT {F f : Nat} (H : Sizes F f) (v : FVec Ideal ⟨3, ![F, 32, 512]⟩ .f32) : FVec Ideal ⟨3, ![f, 1, 512]⟩ .f32 :=
  totalV (pairV v H.cast H.even H.odd H.back) H.total

/-- The layer's new offset. -/
def nextM {F f : Nat} (H : Sizes F f) (m : FVec Ideal ⟨3, ![F, 1, 512]⟩ .f32)
    (v : FVec Ideal ⟨3, ![F, 32, 512]⟩ .f32) : FVec Ideal ⟨3, ![f, 1, 512]⟩ .f32 :=
  offsetV m (nextT H v) H.castRow H.evenRow H.oddRow H.backRow

/-- The layer's new values. -/
def nextV {F f : Nat} (H : Sizes F f) (w : FVec Ideal ⟨3, ![f, 32, 32]⟩ .bf16)
    (v : FVec Ideal ⟨3, ![F, 32, 512]⟩ .f32) : FVec Ideal ⟨3, ![f, 32, 512]⟩ .f32 :=
  mixV w (normV (pairV v H.cast H.even H.odd H.back) (nextT H v) H.spread H.narrow) H.mix

/-- The even folds, as a layer reads them. -/
def evens {F f : Nat} (H : Sizes F f) (v : FVec Ideal ⟨3, ![F, 32, 512]⟩ .f32) : FVec Ideal ⟨3, ![f, 32, 512]⟩ .f32 :=
  half2 0 v H.cast H.even H.back

/-- The odd folds, before their unit axis is dropped. -/
def odds {F f : Nat} (H : Sizes F f) (v : FVec Ideal ⟨3, ![F, 32, 512]⟩ .f32) : FVec Ideal ⟨4, ![f, 1, 32, 512]⟩ .f32 :=
  extractStridedSlice _ ![0, 1, 0, 0] (shapeCast _ v H.cast) H.odd

/-- The first layer's values: mixtures of the exponentials of the products less their maximum. -/
def firstV (μ : FVec Ideal S256x3x32 .f32) (ξ : FVec Ideal S256x3x512 .f32) (w : FVec Ideal S256x32x32 .bf16) :
    FVec Ideal S256x32x512 .f32 :=
  mixV w (truncf .bf16 (exp (subf (k0_pay20 μ ξ) (broadcastTo S256x32x512 (k0_pay21 μ ξ) broadcasts_S256x1x512_S256x32x512)))
    bitsLt_bf16_f32) dot_S256x32x32_S256x32x512_S256x32x512_2_1_1_2_0_0.wf

/-- Each of the kernel's values is a step of the layers at its sizes. -/
theorem pay24_eq (μ : FVec Ideal S256x3x32 .f32) (ξ : FVec Ideal S256x3x512 .f32) (w : FVec Ideal S256x32x32 .bf16) :
    k0_pay24 (F := Ideal) μ ξ w = evens sizes₁ (firstV μ ξ w) := rfl

theorem pay25_eq (μ : FVec Ideal S256x3x32 .f32) (ξ : FVec Ideal S256x3x512 .f32) (w : FVec Ideal S256x32x32 .bf16) :
    k0_pay25 (F := Ideal) μ ξ w = odds sizes₁ (firstV μ ξ w) := rfl

theorem pay30_eq (m : FVec Ideal S256x1x512 .f32) (v : FVec Ideal S256x32x512 .f32) (w : FVec Ideal S128x32x32 .bf16) :
    k0_pay30 (F := Ideal) m (evens sizes₁ v) (odds sizes₁ v) w = nextM sizes₂ (nextM sizes₁ m v) (nextV sizes₁ w v) := rfl

theorem pay32_eq (v : FVec Ideal S256x32x512 .f32) (w : FVec Ideal S128x32x32 .bf16) (w' : FVec Ideal S64x32x32 .bf16) :
    k0_pay32 (F := Ideal) (evens sizes₁ v) (odds sizes₁ v) w w' = evens sizes₃ (nextV sizes₂ w' (nextV sizes₁ w v)) := rfl

theorem pay33_eq (v : FVec Ideal S256x32x512 .f32) (w : FVec Ideal S128x32x32 .bf16) (w' : FVec Ideal S64x32x32 .bf16) :
    k0_pay33 (F := Ideal) (evens sizes₁ v) (odds sizes₁ v) w w' = odds sizes₃ (nextV sizes₂ w' (nextV sizes₁ w v)) := rfl

theorem pay38_eq (m : FVec Ideal S64x1x512 .f32) (v : FVec Ideal S64x32x512 .f32) (w : FVec Ideal S32x32x32 .bf16) :
    k0_pay38 (F := Ideal) m (evens sizes₃ v) (odds sizes₃ v) w = nextM sizes₄ (nextM sizes₃ m v) (nextV sizes₃ w v) := rfl

theorem pay40_eq (v : FVec Ideal S64x32x512 .f32) (w : FVec Ideal S32x32x32 .bf16) (w' : FVec Ideal S16x32x32 .bf16) :
    k0_pay40 (F := Ideal) (evens sizes₃ v) (odds sizes₃ v) w w' = evens sizes₅ (nextV sizes₄ w' (nextV sizes₃ w v)) := rfl

theorem pay41_eq (v : FVec Ideal S64x32x512 .f32) (w : FVec Ideal S32x32x32 .bf16) (w' : FVec Ideal S16x32x32 .bf16) :
    k0_pay41 (F := Ideal) (evens sizes₃ v) (odds sizes₃ v) w w' = odds sizes₅ (nextV sizes₄ w' (nextV sizes₃ w v)) := rfl

theorem pay46_eq (m : FVec Ideal S16x1x512 .f32) (v : FVec Ideal S16x32x512 .f32) (w : FVec Ideal S8x32x32 .bf16) :
    k0_pay46 (F := Ideal) m (evens sizes₅ v) (odds sizes₅ v) w = nextM sizes₆ (nextM sizes₅ m v) (nextV sizes₅ w v) := rfl

theorem pay48_eq (v : FVec Ideal S16x32x512 .f32) (w : FVec Ideal S8x32x32 .bf16) (w' : FVec Ideal S4x32x32 .bf16) :
    k0_pay48 (F := Ideal) (evens sizes₅ v) (odds sizes₅ v) w w' = evens sizes₇ (nextV sizes₆ w' (nextV sizes₅ w v)) := rfl

theorem pay49_eq (v : FVec Ideal S16x32x512 .f32) (w : FVec Ideal S8x32x32 .bf16) (w' : FVec Ideal S4x32x32 .bf16) :
    k0_pay49 (F := Ideal) (evens sizes₅ v) (odds sizes₅ v) w w' = odds sizes₇ (nextV sizes₆ w' (nextV sizes₅ w v)) := rfl

theorem pay54_eq (v : FVec Ideal S4x32x512 .f32) (w : FVec Ideal S2x32x32 .bf16) (w' : FVec Ideal S1x32x32 .bf16) :
    k0_pay54 (F := Ideal) (evens sizes₇ v) (odds sizes₇ v) w w' =
      log (shapeCast S32x512 (nextV sizes₈ w' (nextV sizes₇ w v)) shapeCasts_S1x32x512_S32x512) := rfl

theorem pay55_eq (m : FVec Ideal S4x1x512 .f32) (v : FVec Ideal S4x32x512 .f32) (w : FVec Ideal S2x32x32 .bf16) :
    k0_pay55 (F := Ideal) m (evens sizes₇ v) (odds sizes₇ v) w =
      broadcastTo S32x512 (shapeCast S1x512 (nextM sizes₈ (nextM sizes₇ m v) (nextV sizes₇ w v)) shapeCasts_S1x1x512_S1x512)
        broadcasts_S1x512_S32x512 := rfl

/-- What the kernel stores, from the means' and the inputs' arrays, the block of inputs and the nine weights. -/
def stored (x : FVec Ideal S512x1x512 .f32) (μ : FVec Ideal S256x3x32 .f32) (ξ : FVec Ideal S256x3x512 .f32)
    (w₀ : FVec Ideal S256x32x32 .bf16) (w₁ : FVec Ideal S128x32x32 .bf16) (w₂ : FVec Ideal S64x32x32 .bf16)
    (w₃ : FVec Ideal S32x32x32 .bf16) (w₄ : FVec Ideal S16x32x32 .bf16) (w₅ : FVec Ideal S8x32x32 .bf16)
    (w₆ : FVec Ideal S4x32x32 .bf16) (w₇ : FVec Ideal S2x32x32 .bf16) (w₈ : FVec Ideal S1x32x32 .bf16) :
    FVec Ideal S512x1x32 .f32 :=
  have m₀ := k0_pay22 (F := Ideal) x μ ξ
  have a₀ := k0_pay24 (F := Ideal) μ ξ w₀
  have b₀ := k0_pay25 (F := Ideal) μ ξ w₀
  have m₂ := k0_pay30 m₀ a₀ b₀ w₁
  have a₂ := k0_pay32 a₀ b₀ w₁ w₂
  have b₂ := k0_pay33 a₀ b₀ w₁ w₂
  have m₄ := k0_pay38 m₂ a₂ b₂ w₃
  have a₄ := k0_pay40 a₂ b₂ w₃ w₄
  have b₄ := k0_pay41 a₂ b₂ w₃ w₄
  have m₆ := k0_pay46 m₄ a₄ b₄ w₅
  have a₆ := k0_pay48 a₄ b₄ w₅ w₆
  have b₆ := k0_pay49 a₄ b₄ w₅ w₆
  k0_pay1 (k0_pay54 a₆ b₆ w₇ w₈) (k0_pay55 m₆ a₆ b₆ w₇)

/-- The product of the means' array and the inputs' array, at an index. -/
theorem pay20_apply (μ : FVec Ideal S256x3x32 .f32) (ξ : FVec Ideal S256x3x512 .f32) (a : Fin 256) (k : Fin 32) (b : Fin 512) :
    k0_pay20 (F := Ideal) μ ξ (ix3 a k b) = ∑ i : Fin 3, μ (ix3 a i k) * ξ (ix3 a i b) := by
  unfold k0_pay20
  pointwise []

/-- Its maximum over the nodes, at an index. -/
theorem pay21_apply (μ : FVec Ideal S256x3x32 .f32) (ξ : FVec Ideal S256x3x512 .f32) (a : Fin 256) (b : Fin 512) :
    k0_pay21 (F := Ideal) μ ξ (ix3 a 0 b) = rowMax fun k => k0_pay20 (F := Ideal) μ ξ (ix3 a k b) := by
  unfold k0_pay21
  generalize k0_pay20 (F := Ideal) μ ξ = z
  pointwise []
  rw [ofBits_bot]
  rfl

/-- The inputs' block, transposed. -/
theorem pay18_apply (x : FVec Ideal S512x1x512 .f32) (d b : Fin 512) :
    k0_pay18 (F := Ideal) x (ix2 d b) = x (ix3 b 0 d) := by
  unfold k0_pay18
  pointwise []

/-- The first offset: the maximum, and minus half the squares of each pair of inputs. -/
theorem pay22_eq (x : FVec Ideal S512x1x512 .f32) (μ : FVec Ideal S256x3x32 .f32) (ξ : FVec Ideal S256x3x512 .f32) :
    k0_pay22 (F := Ideal) x μ ξ = addf (k0_pay21 (F := Ideal) μ ξ)
      (shapeCast S256x1x512 (mulf (broadcast S256x512 (Scalar.ofBits (F := Ideal) .f32 0xBF000000#32))
        (addf
          (row2 0 (shapeCast S256x2x512 (mulf (k0_pay18 (F := Ideal) x) (k0_pay18 x)) shapeCasts_S512x512_S256x2x512)
            slices_S256x2x512_o0_0_0_S256x1x512 shapeCasts_S256x1x512_S256x512)
          (row2 1 (shapeCast S256x2x512 (mulf (k0_pay18 (F := Ideal) x) (k0_pay18 x)) shapeCasts_S512x512_S256x2x512)
            slices_S256x2x512_o0_1_0_S256x1x512 shapeCasts_S256x1x512_S256x512)))
        shapeCasts_S256x512_S256x1x512) := rfl

/-- Minus half the sum of two rows, at an index. -/
theorem halfSum_apply {f l : Nat} (u v : FVec Ideal ⟨2, ![f, l]⟩ .f32)
    (h : (⟨2, ![f, l]⟩ : Shape).ShapeCasts ⟨3, ![f, 1, l]⟩) (a : Fin f) (b : Fin l) :
    shapeCast ⟨3, ![f, 1, l]⟩ (mulf (broadcast ⟨2, ![f, l]⟩ (Scalar.ofBits (F := Ideal) .f32 0xBF000000#32)) (addf u v)) h
      (ix3 a 0 b) = half * (u (ix2 a b) + v (ix2 a b)) := by
  rw [widen_apply, ← ofBits_half]
  rfl

/-- The squares of a pair of inputs' one member, at an index. -/
theorem square_apply {F f l : Nat} (o : Fin 2) (y : FVec Ideal ⟨2, ![F, l]⟩ .f32)
    (h : (⟨2, ![F, l]⟩ : Shape).ShapeCasts ⟨3, ![f, 2, l]⟩)
    (h₂ : (⟨3, ![f, 2, l]⟩ : Shape).Slices ![0, o.val, 0] ⟨3, ![f, 1, l]⟩)
    (h₃ : (⟨3, ![f, 1, l]⟩ : Shape).ShapeCasts ⟨2, ![f, l]⟩) (a : Fin f) (b : Fin l) (i : Fin F)
    (hi : i.val = 2 * a.val + o.val) :
    row2 o.val (shapeCast ⟨3, ![f, 2, l]⟩ (mulf y y) h) h₂ h₃ (ix2 a b) = y (ix2 i b) * y (ix2 i b) := by
  rw [row2_apply, split_apply _ h a o b i hi]
  rfl

/-- The first offset, at an index. -/
theorem pay22_apply (x : FVec Ideal S512x1x512 .f32) (μ : FVec Ideal S256x3x32 .f32) (ξ : FVec Ideal S256x3x512 .f32)
    (a : Fin 256) (b : Fin 512) (i₀ i₁ : Fin 512) (h₀ : i₀.val = 2 * a.val + 0) (h₁ : i₁.val = 2 * a.val + 1) :
    k0_pay22 (F := Ideal) x μ ξ (ix3 a 0 b) = k0_pay21 (F := Ideal) μ ξ (ix3 a 0 b) + half *
      (x (ix3 b 0 i₀) * x (ix3 b 0 i₀) + x (ix3 b 0 i₁) * x (ix3 b 0 i₁)) := by
  rw [pay22_eq]
  have e₀ := square_apply (0 : Fin 2) (k0_pay18 (F := Ideal) x) shapeCasts_S512x512_S256x2x512
    slices_S256x2x512_o0_0_0_S256x1x512 shapeCasts_S256x1x512_S256x512 a b i₀ h₀
  have e₁ := square_apply (1 : Fin 2) (k0_pay18 (F := Ideal) x) shapeCasts_S512x512_S256x2x512
    slices_S256x2x512_o0_1_0_S256x1x512 shapeCasts_S256x1x512_S256x512 a b i₁ h₁
  rw [pay18_apply] at e₀ e₁
  rw [← e₀, ← e₁, addf_apply]
  exact congrArg (k0_pay21 (F := Ideal) μ ξ (ix3 a 0 b) + ·) (halfSum_apply _ _ _ a b)

/-- The arrays of means and inputs the layers start from hold the means `M` and the inputs `X`. -/
structure Start (M : Fin 512 → Fin 32 → EReal) (X : Fin 512 → Fin 512 → EReal) (x : FVec Ideal S512x1x512 .f32)
    (μ : FVec Ideal S256x3x32 .f32) (ξ : FVec Ideal S256x3x512 .f32) : Prop where
  x : ∀ b d, x (ix3 b 0 d) = X b d
  μ₀ : ∀ a k, μ (ix3 a 0 k) = M ⟨2 * a.val + 0, by omega⟩ k
  μ₁ : ∀ a k, μ (ix3 a 1 k) = M ⟨2 * a.val + 1, by omega⟩ k
  μ₂ : ∀ a k, μ (ix3 a 2 k) = half * (M ⟨2 * a.val + 0, by omega⟩ k * M ⟨2 * a.val + 0, by omega⟩ k +
      M ⟨2 * a.val + 1, by omega⟩ k * M ⟨2 * a.val + 1, by omega⟩ k)
  ξ₀ : ∀ a b, ξ (ix3 a 0 b) = X b ⟨2 * a.val + 0, by omega⟩
  ξ₁ : ∀ a b, ξ (ix3 a 1 b) = X b ⟨2 * a.val + 1, by omega⟩
  ξ₂ : ∀ a b, ξ (ix3 a 2 b) = 1

/-- The first layer: the products less their maximum, exponentiated and mixed, carry the first level. -/
theorem first_state (p : Params) {M : Fin 512 → Fin 32 → EReal} {X : Fin 512 → Fin 512 → EReal}
    {x : FVec Ideal S512x1x512 .f32} {μ : FVec Ideal S256x3x32 .f32} {ξ : FVec Ideal S256x3x512 .f32}
    (h : Start M X x μ ξ) (w₀ : FVec Ideal S256x32x32 .bf16)
    (hw₀ : ∀ a j k, w₀ (ix3 a j k) = weight (tri p.θ₀ a j) k) :
    State (fun b => level₀ p M (X b)) (k0_pay22 (F := Ideal) x μ ξ) (firstV μ ξ w₀) := by
  refine State.mix (C := fun b a k => leaf M (X b) ⟨2 * a.val + 0, by omega⟩ k + leaf M (X b) ⟨2 * a.val + 1, by omega⟩ k)
    ?_ p.θ₀ w₀ hw₀ _
  intro b a
  have h20 : ∀ k, k0_pay20 (F := Ideal) μ ξ (ix3 a k b) = cross (X b ⟨2 * a.val + 0, by omega⟩) (X b ⟨2 * a.val + 1, by omega⟩)
      (M ⟨2 * a.val + 0, by omega⟩ k) (M ⟨2 * a.val + 1, by omega⟩ k) := by
    intro k
    rw [pay20_apply, Fin.sum_univ_three, h.μ₀, h.μ₁, h.μ₂, h.ξ₀, h.ξ₁, h.ξ₂, mul_one]
    rfl
  have h21 := pay21_apply μ ξ a b
  have h22 := pay22_apply x μ ξ a b ⟨2 * a.val + 0, by omega⟩ ⟨2 * a.val + 1, by omega⟩ rfl rfl
  have he : ∀ k, truncf .bf16 (exp (subf (k0_pay20 (F := Ideal) μ ξ) (broadcastTo S256x32x512 (k0_pay21 (F := Ideal) μ ξ)
      broadcasts_S256x1x512_S256x32x512))) bitsLt_bf16_f32 (ix3 a k b) =
      Ideal.exp (k0_pay20 (F := Ideal) μ ξ (ix3 a k b) - k0_pay21 (F := Ideal) μ ξ (ix3 a 0 b)) := by
    intro k
    rw [← spread_row (k0_pay21 (F := Ideal) μ ξ) broadcasts_S256x1x512_S256x32x512 a k b]
    rfl
  rw [h21] at h22 he
  simp only [h20, h.x] at h22 he
  rw [h22]
  simp only [he]
  exact carries_base _ _ (fun k => M ⟨2 * a.val + 0, by omega⟩ k) (fun k => M ⟨2 * a.val + 1, by omega⟩ k) 0

/-- One layer of the kernel: from an offset and values that carry `C`, its new offset and values carry `up θ C`. -/
theorem next_state {F f : Nat} (H : Sizes F f) {C : Fin 512 → Fin F → Fin 32 → EReal}
    {m : FVec Ideal ⟨3, ![F, 1, 512]⟩ .f32} {v : FVec Ideal ⟨3, ![F, 32, 512]⟩ .f32} (h : State C m v)
    (θ : FVec Ideal ⟨3, ![f, 32, 32]⟩ .f32) (w : FVec Ideal ⟨3, ![f, 32, 32]⟩ .bf16)
    (hw : ∀ a j k, w (ix3 a j k) = weight (tri θ a j) k) :
    State (fun b => up H.half (tri θ) (C b)) (nextM H m v) (nextV H w v) :=
  h.layer H.half θ w hw H.cast H.even H.odd H.back H.castRow H.evenRow H.oddRow H.backRow H.total H.mix H.spread H.narrow

/-- The last step: the offset plus the logarithm of the values, transposed to the output's layout. -/
theorem last_apply (m : FVec Ideal S1x1x512 .f32) (v : FVec Ideal S1x32x512 .f32) (b : Fin 512) (j : Fin 32) :
    k0_pay1 (F := Ideal) (log (shapeCast S32x512 v shapeCasts_S1x32x512_S32x512))
      (broadcastTo S32x512 (shapeCast S1x512 m shapeCasts_S1x1x512_S1x512) broadcasts_S1x512_S32x512) (ix3 b 0 j) =
      m (ix3 0 0 b) + Ideal.log (v (ix3 0 j b)) := by
  unfold k0_pay1
  pointwise []

/-- What the kernel stores at row `b`, node `j`: the circuit's value for the row's inputs. -/
theorem stored_apply (p : Params) {M : Fin 512 → Fin 32 → EReal} {X : Fin 512 → Fin 512 → EReal}
    {x : FVec Ideal S512x1x512 .f32} {μ : FVec Ideal S256x3x32 .f32} {ξ : FVec Ideal S256x3x512 .f32}
    (h : Start M X x μ ξ)
    (w₀ : FVec Ideal S256x32x32 .bf16) (w₁ : FVec Ideal S128x32x32 .bf16) (w₂ : FVec Ideal S64x32x32 .bf16)
    (w₃ : FVec Ideal S32x32x32 .bf16) (w₄ : FVec Ideal S16x32x32 .bf16) (w₅ : FVec Ideal S8x32x32 .bf16)
    (w₆ : FVec Ideal S4x32x32 .bf16) (w₇ : FVec Ideal S2x32x32 .bf16) (w₈ : FVec Ideal S1x32x32 .bf16)
    (h₀ : ∀ a j k, w₀ (ix3 a j k) = weight (tri p.θ₀ a j) k)
    (h₁ : ∀ a j k, w₁ (ix3 a j k) = weight (tri p.θ₁ a j) k)
    (h₂ : ∀ a j k, w₂ (ix3 a j k) = weight (tri p.θ₂ a j) k)
    (h₃ : ∀ a j k, w₃ (ix3 a j k) = weight (tri p.θ₃ a j) k)
    (h₄ : ∀ a j k, w₄ (ix3 a j k) = weight (tri p.θ₄ a j) k)
    (h₅ : ∀ a j k, w₅ (ix3 a j k) = weight (tri p.θ₅ a j) k)
    (h₆ : ∀ a j k, w₆ (ix3 a j k) = weight (tri p.θ₆ a j) k)
    (h₇ : ∀ a j k, w₇ (ix3 a j k) = weight (tri p.θ₇ a j) k)
    (h₈ : ∀ a j k, w₈ (ix3 a j k) = weight (tri p.θ₈ a j) k) (b : Fin 512) (j : Fin 32) :
    stored x μ ξ w₀ w₁ w₂ w₃ w₄ w₅ w₆ w₇ w₈ (ix3 b 0 j) = level₈ p M (X b) 0 j := by
  have s₈ := next_state sizes₈ (next_state sizes₇ (next_state sizes₆ (next_state sizes₅ (next_state sizes₄
    (next_state sizes₃ (next_state sizes₂ (next_state sizes₁ (first_state p h w₀ h₀) p.θ₁ w₁ h₁) p.θ₂ w₂ h₂) p.θ₃ w₃ h₃)
    p.θ₄ w₄ h₄) p.θ₅ w₅ h₅) p.θ₆ w₆ h₆) p.θ₇ w₇ h₇) p.θ₈ w₈ h₈ b 0
  unfold stored
  simp only [pay24_eq, pay25_eq, pay30_eq, pay32_eq, pay33_eq, pay38_eq, pay40_eq, pay41_eq, pay46_eq, pay48_eq, pay49_eq,
    pay54_eq, pay55_eq, last_apply]
  exact (s₈.eq j).symm

end Circuit

end
-- ==== Proof.KernelFill.lean ====
module

public import proofs.«01_k».proof.Proof.KernelStages

/-!
# What the kernel's first step puts aside

The weights of the nine layers, the array of means and the array of inputs, each read at an index.
-/

@[expose] public section

set_option maxRecDepth 16384

noncomputable section

namespace Circuit

open Idealize.ShloMosaic Cert.KernelIdeal.Gen Cert.KernelIdeal

/-- A reshape to the same shape changes nothing. -/
theorem shapeCast_same {α : Type} {s : Shape} (x : s.Idx → α) (h : s.ShapeCasts s) : shapeCast s x h = x :=
  funext fun i => congrArg x (Shape.reshapeEquiv_eq_of_rowMajor h rfl)

/-- What the shapes of the weights of a layer of `f` folds allow. -/
structure Weighed (f : Nat) : Prop where
  sums : DotDims.WF ⟨3, ![f, 32, 32]⟩ ⟨3, ![f, 32, 1]⟩ ⟨3, ![f, 32, 1]⟩ [2] [1] [1] [2] [0] [0]
  spread : (⟨3, ![f, 32, 1]⟩ : Shape).Broadcasts ⟨3, ![f, 32, 32]⟩
  narrow : FTy.bits .bf16 < FTy.bits .f32
  same : (⟨3, ![f, 32, 32]⟩ : Shape).ShapeCasts ⟨3, ![f, 32, 32]⟩

/-- The weights of a layer, as stored. -/
def keptV {f : Nat} (W : Weighed f) (θ : FVec Ideal ⟨3, ![f, 32, 32]⟩ .f32) : FVec Ideal ⟨3, ![f, 32, 32]⟩ .bf16 :=
  shapeCast _ (weightV θ W.sums W.spread W.narrow) W.same

/-- A stored weight at an index. -/
theorem keptV_apply {f : Nat} (W : Weighed f) (θ : FVec Ideal ⟨3, ![f, 32, 32]⟩ .f32) (a : Fin f) (j k : Fin 32) :
    keptV W θ (ix3 a j k) = weight (tri θ a j) k := by
  unfold keptV
  rw [shapeCast_same, weightV_apply]
  rfl

theorem weighed₀ : Weighed 256 := by constructor <;> decide
theorem weighed₁ : Weighed 128 := by constructor <;> decide
theorem weighed₂ : Weighed 64 := by constructor <;> decide
theorem weighed₃ : Weighed 32 := by constructor <;> decide
theorem weighed₄ : Weighed 16 := by constructor <;> decide
theorem weighed₅ : Weighed 8 := by constructor <;> decide
theorem weighed₆ : Weighed 4 := by constructor <;> decide
theorem weighed₇ : Weighed 2 := by constructor <;> decide
theorem weighed₈ : Weighed 1 := by constructor <;> decide

/-- The weights of layer 0. -/
theorem weights₀_apply (θ : FVec Ideal ⟨3, ![256, 32, 32]⟩ .f32) (a : Fin 256) (j k : Fin 32) :
    k0_pay2 (F := Ideal) θ (ix3 a j k) = weight (tri θ a j) k := keptV_apply weighed₀ θ a j k
/-- The weights of layer 1. -/
theorem weights₁_apply (θ : FVec Ideal ⟨3, ![128, 32, 32]⟩ .f32) (a : Fin 128) (j k : Fin 32) :
    k0_pay3 (F := Ideal) θ (ix3 a j k) = weight (tri θ a j) k := keptV_apply weighed₁ θ a j k
/-- The weights of layer 2. -/
theorem weights₂_apply (θ : FVec Ideal ⟨3, ![64, 32, 32]⟩ .f32) (a : Fin 64) (j k : Fin 32) :
    k0_pay5 (F := Ideal) (k0_pay4 (F := Ideal) θ) (ix3 a j k) = weight (tri θ a j) k := keptV_apply weighed₂ θ a j k
/-- The weights of layer 3. -/
theorem weights₃_apply (θ : FVec Ideal ⟨3, ![32, 32, 32]⟩ .f32) (a : Fin 32) (j k : Fin 32) :
    k0_pay6 (F := Ideal) θ (ix3 a j k) = weight (tri θ a j) k := keptV_apply weighed₃ θ a j k
/-- The weights of layer 4. -/
theorem weights₄_apply (θ : FVec Ideal ⟨3, ![16, 32, 32]⟩ .f32) (a : Fin 16) (j k : Fin 32) :
    k0_pay7 (F := Ideal) θ (ix3 a j k) = weight (tri θ a j) k := keptV_apply weighed₄ θ a j k
/-- The weights of layer 5. -/
theorem weights₅_apply (θ : FVec Ideal ⟨3, ![8, 32, 32]⟩ .f32) (a : Fin 8) (j k : Fin 32) :
    k0_pay10 (F := Ideal) (k0_pay8 (F := Ideal) θ) (k0_pay9 (F := Ideal) θ) (FloatOps.ofBits FTy.f32 0x3F800000#32) (ix3 a j k) = weight (tri θ a j) k := keptV_apply weighed₅ θ a j k
/-- The weights of layer 6. -/
theorem weights₆_apply (θ : FVec Ideal ⟨3, ![4, 32, 32]⟩ .f32) (a : Fin 4) (j k : Fin 32) :
    k0_pay11 (F := Ideal) θ (ix3 a j k) = weight (tri θ a j) k := keptV_apply weighed₆ θ a j k
/-- The weights of layer 7. -/
theorem weights₇_apply (θ : FVec Ideal ⟨3, ![2, 32, 32]⟩ .f32) (a : Fin 2) (j k : Fin 32) :
    k0_pay12 (F := Ideal) θ (ix3 a j k) = weight (tri θ a j) k := keptV_apply weighed₇ θ a j k
/-- The weights of layer 8. -/
theorem weights₈_apply (θ : FVec Ideal ⟨3, ![1, 32, 32]⟩ .f32) (a : Fin 1) (j k : Fin 32) :
    k0_pay13 (F := Ideal) θ (ix3 a j k) = weight (tri θ a j) k := keptV_apply weighed₈ θ a j k

/-- The means by pairs of leaves. -/
theorem pairedMeans_apply (μ : FVec Ideal S512x1x1x32 .f32) (a : Fin 256) (o : Fin 2) (k : Fin 32) (i : Fin 512)
    (hi : i.val = 2 * a.val + o.val) : k0_pay14 (F := Ideal) μ (ix3 a o k) = μ (ix4 i 0 0 k) := by
  unfold k0_pay14
  rw [Pointwise.shapeCast_apply]
  refine congrArg μ (Shape.reshapeEquiv_eq_of_rowMajor _ ?_)
  rw [rowMajor_val4 _ _ _ _ rfl rfl rfl, rowMajor_val3 _ _ _ rfl rfl]
  show i.val * (1 * (1 * 32)) + 0 * (1 * 32) + 0 * 32 + k.val = a.val * (2 * 32) + o.val * 32 + k.val
  omega

/-- The first two rows of the array of means hold the means of the pair's leaves. -/
theorem meanRows_apply (μ : FVec Ideal S512x1x1x32 .f32) (a : Fin 256) (o : Fin 2) (k : Fin 32) (i : Fin 512)
    (hi : i.val = 2 * a.val + o.val) : k0_pay15 (F := Ideal) μ (ix3 a o k) = μ (ix4 i 0 0 k) := by
  unfold k0_pay15
  rw [shapeCast_same, pairedMeans_apply μ a o k i hi]

/-- The array operations of the last row of the array of means. -/
theorem meanSquares_eq (μ : FVec Ideal S512x1x1x32 .f32) :
    k0_pay16 (F := Ideal) μ = shapeCast S256x1x32 (mulf (broadcast S256x32 (Scalar.ofBits (F := Ideal) .f32 0xBF000000#32))
      (addf (row2 (0 : Fin 2).val (mulf (k0_pay14 (F := Ideal) μ) (k0_pay14 (F := Ideal) μ)) slices_S256x2x32_o0_0_0_S256x1x32 shapeCasts_S256x1x32_S256x32)
        (row2 (1 : Fin 2).val (mulf (k0_pay14 (F := Ideal) μ) (k0_pay14 (F := Ideal) μ)) slices_S256x2x32_o0_1_0_S256x1x32 shapeCasts_S256x1x32_S256x32)))
      shapeCasts_S256x32_S256x1x32 := rfl

/-- The last row of the array of means: minus half the sum of the squares of the pair's means. -/
theorem meanSquares_apply (μ : FVec Ideal S512x1x1x32 .f32) (a : Fin 256) (k : Fin 32) (i₀ i₁ : Fin 512)
    (h₀ : i₀.val = 2 * a.val + 0) (h₁ : i₁.val = 2 * a.val + 1) :
    k0_pay16 (F := Ideal) μ (ix3 a 0 k) = half * (μ (ix4 i₀ 0 0 k) * μ (ix4 i₀ 0 0 k) + μ (ix4 i₁ 0 0 k) * μ (ix4 i₁ 0 0 k)) := by
  rw [meanSquares_eq, halfSum_apply, row2_apply, row2_apply, ← pairedMeans_apply μ a 0 k i₀ h₀, ← pairedMeans_apply μ a 1 k i₁ h₁]
  rfl

/-- The last row of the array of inputs is one. -/
theorem inputOnes_apply (a : Fin 256) (b : Fin 512) : k0_pay17 (F := Ideal) (ix3 a 0 b) = 1 := by
  unfold k0_pay17
  rw [widen_apply]
  exact Ideal.ofBits_one_f32

/-- The first two rows of the array of inputs hold the inputs of the pair's leaves. -/
theorem inputRows_apply (x : FVec Ideal S512x1x512 .f32) (a : Fin 256) (o : Fin 2) (b : Fin 512) (i : Fin 512)
    (hi : i.val = 2 * a.val + o.val) : k0_pay19 (F := Ideal) x (ix3 a o b) = x (ix3 b 0 i) := by
  unfold k0_pay19
  rw [shapeCast_same, split_apply _ _ a o b i hi, pay18_apply]

end Circuit

end
-- ==== Proof.KernelArray.lean ====
module

public import proofs.«01_k».proof.Proof.KernelFill
public import proofs.«01_k».proof.Proof.Gen.KernelIdeal.Value
public import Idealize.ShloMosaic.Lib.Pipeline.ValueKit
public import Idealize.ShloMosaic.Lib.Pipeline.ReadBack

/-!
# The arrays the kernel keeps between its points

The first point fills three arrays: the weights of the nine layers, the means with minus half the sum of their squares in a
third row, and the inputs with ones in a third row. The second point writes its own inputs over the first two rows.
Here each array is read at an index.
-/

@[expose] public section

set_option maxRecDepth 16384
set_option maxHeartbeats 400000

noncomputable section

namespace Circuit

open Idealize.ShloMosaic
open Cert.KernelIdeal Cert.KernelIdeal.Gen

/-- The write that puts minus half the sum of the squared means of each pair of leaves into the last row. -/
def squaresP (μ : FVec Ideal S512x1x1x32 .f32) : View.Piece (Elt Ideal) S256x3x32 .f32 :=
  ⟨Rect.unit ![0, 2, 0] ![256, 1, 32] inb_S256x3x32_S256x1x32_0_2_0, k0_pay16 (F := Ideal) μ⟩

/-- The write that puts the two means of each pair into the first two rows. -/
def meansP (μ : FVec Ideal S512x1x1x32 .f32) : View.Piece (Elt Ideal) S256x3x32 .f32 :=
  ⟨Rect.unit ![0, 0, 0] ![256, 2, 32] inb_S256x3x32_S256x2x32_0_0_0, k0_pay15 (F := Ideal) μ⟩

/-- The write that puts a point's inputs into the first two rows. -/
def inputsP (x : FVec Ideal S512x1x512 .f32) : View.Piece (Elt Ideal) S256x3x512 .f32 :=
  ⟨Rect.unit ![0, 0, 0] ![256, 2, 512] inb_S256x3x512_S256x2x512_0_0_0, k0_pay19 (F := Ideal) x⟩

/-- The write that puts ones into the last row. -/
def onesP : View.Piece (Elt Ideal) S256x3x512 .f32 :=
  ⟨Rect.unit ![0, 2, 0] ![256, 1, 512] inb_S256x3x512_S256x1x512_0_2_0, k0_pay17 (F := Ideal)⟩

/-- The first two rows of the array of means are outside the last. -/
theorem squares_free (μ : FVec Ideal S512x1x1x32 .f32) (a : Fin 256) (k : Fin 32) (i : Fin 3) (hi : i.val < 2) :
    (ix3 a i k : S256x3x32.Idx) ∉ (squaresP μ).1.set := by
  unfold squaresP
  rw [Rect.mem_set_unit]
  intro h
  have := (h 1).1
  change 2 ≤ i.val at this
  omega

/-- The last row of the array of inputs is outside the first two. -/
theorem inputs_free (x : FVec Ideal S512x1x512 .f32) (a : Fin 256) (b : Fin 512) :
    (ix3 a 2 b : S256x3x512.Idx) ∉ (inputsP x).1.set := by
  unfold inputsP
  rw [Rect.mem_set_unit]
  intro h
  have := (h 1).2
  change 2 < 0 + 2 at this
  omega

/-- Where the indices of the written rows lie in the arrays. -/
theorem means_index_low (a : Fin 256) (o : Fin 2) (k : Fin 32) :
    (ix3 a ⟨o.val, by omega⟩ k : S256x3x32.Idx) =
      (Rect.unit (s := S256x3x32) ![0, 0, 0] ![256, 2, 32] inb_S256x3x32_S256x2x32_0_0_0).emb (ix3 a o k) := by
  funext c; apply Fin.ext
  match c with
  | ⟨0, _⟩ => show a.val = 0 + 1 * a.val; omega
  | ⟨1, _⟩ => show o.val = 0 + 1 * o.val; omega
  | ⟨2, _⟩ => show k.val = 0 + 1 * k.val; omega

theorem means_index_high (a : Fin 256) (k : Fin 32) :
    (ix3 a 2 k : S256x3x32.Idx) =
      (Rect.unit (s := S256x3x32) ![0, 2, 0] ![256, 1, 32] inb_S256x3x32_S256x1x32_0_2_0).emb (ix3 a 0 k) := by
  funext c; apply Fin.ext
  match c with
  | ⟨0, _⟩ => show a.val = 0 + 1 * a.val; omega
  | ⟨1, _⟩ => rfl
  | ⟨2, _⟩ => show k.val = 0 + 1 * k.val; omega

theorem inputs_index_low (a : Fin 256) (o : Fin 2) (b : Fin 512) :
    (ix3 a ⟨o.val, by omega⟩ b : S256x3x512.Idx) =
      (Rect.unit (s := S256x3x512) ![0, 0, 0] ![256, 2, 512] inb_S256x3x512_S256x2x512_0_0_0).emb (ix3 a o b) := by
  funext c; apply Fin.ext
  match c with
  | ⟨0, _⟩ => show a.val = 0 + 1 * a.val; omega
  | ⟨1, _⟩ => show o.val = 0 + 1 * o.val; omega
  | ⟨2, _⟩ => show b.val = 0 + 1 * b.val; omega

theorem inputs_index_high (a : Fin 256) (b : Fin 512) :
    (ix3 a 2 b : S256x3x512.Idx) =
      (Rect.unit (s := S256x3x512) ![0, 2, 0] ![256, 1, 512] inb_S256x3x512_S256x1x512_0_2_0).emb (ix3 a 0 b) := by
  funext c; apply Fin.ext
  match c with
  | ⟨0, _⟩ => show a.val = 0 + 1 * a.val; omega
  | ⟨1, _⟩ => rfl
  | ⟨2, _⟩ => show b.val = 0 + 1 * b.val; omega

/-- The filled array of means holds the two means of a pair in its first two rows. -/
theorem means_low (μ : FVec Ideal S512x1x1x32 .f32) (a : Fin 256) (o : Fin 2) (k : Fin 32) :
    View.canon [squaresP μ, meansP μ] (ix3 a ⟨o.val, by omega⟩ k) = μ (ix4 ⟨2 * a.val + o.val, by omega⟩ 0 0 k) := by
  refine (View.canon_cons_of_not_mem (squaresP μ) [meansP μ] (squares_free μ a k ⟨o.val, by omega⟩ o.isLt)).trans ?_
  unfold meansP
  rw [means_index_low, View.canon_cons_emb]
  exact meanRows_apply μ a o k _ rfl

/-- And minus half the sum of their squares in its last. -/
theorem means_high (μ : FVec Ideal S512x1x1x32 .f32) (a : Fin 256) (k : Fin 32) :
    View.canon [squaresP μ, meansP μ] (ix3 a 2 k) = k0_pay16 (F := Ideal) μ (ix3 a 0 k) := by
  unfold squaresP
  rw [means_index_high, View.canon_cons_emb]

/-- The array of inputs holds a point's inputs in its first two rows, whatever was written before. -/
theorem inputs_low (x : FVec Ideal S512x1x512 .f32) (L : List (View.Piece (Elt Ideal) S256x3x512 .f32))
    (a : Fin 256) (o : Fin 2) (b : Fin 512) :
    View.canon (inputsP x :: L) (ix3 a ⟨o.val, by omega⟩ b) = x (ix3 b 0 ⟨2 * a.val + o.val, by omega⟩) := by
  unfold inputsP
  rw [inputs_index_low, View.canon_cons_emb]
  exact inputRows_apply x a o b _ rfl

/-- And in its last row what was there: the ones. -/
theorem inputs_high (x : FVec Ideal S512x1x512 .f32) (a : Fin 256) (b : Fin 512) :
    View.canon [inputsP x, onesP] (ix3 a 2 b) = 1 := by
  refine (View.canon_cons_of_not_mem (inputsP x) [onesP] (inputs_free x a b)).trans ?_
  unfold onesP
  rw [inputs_index_high, View.canon_cons_emb]
  exact inputOnes_apply a b

/-- What the second point's array of inputs is: its own inputs written over the array left by the first. -/
def overwritten (x : FVec Ideal S512x1x512 .f32) (ξ : FVec Ideal S256x3x512 .f32) : FVec Ideal S256x3x512 .f32 :=
  View.read (Elt Ideal) (View.whole cc0_scratch2)
    ((View.whole cc0_scratch2).writes (Elt Ideal) ((Memref.isWhole_whole cc0_scratch2).unread ξ) [inputsP x])

/-- Its first two rows are the point's inputs, -/
theorem overwritten_low (x : FVec Ideal S512x1x512 .f32) (ξ : FVec Ideal S256x3x512 .f32)
    (a : Fin 256) (o : Fin 2) (b : Fin 512) :
    overwritten x ξ (ix3 a ⟨o.val, by omega⟩ b) = x (ix3 b 0 ⟨2 * a.val + o.val, by omega⟩) := by
  unfold overwritten
  refine (View.read_writes_apply_eq_canon _ _ _ _ ⟨_, List.mem_singleton.mpr rfl, ?_⟩).trans (inputs_low x [] a o b)
  rw [inputs_index_low]
  exact LoadRect.idx_mem _ _

/-- and its last row is the one it had. -/
theorem overwritten_high (x : FVec Ideal S512x1x512 .f32) (ξ : FVec Ideal S256x3x512 .f32) (a : Fin 256) (b : Fin 512) :
    overwritten x ξ (ix3 a 2 b) = ξ (ix3 a 2 b) := by
  unfold overwritten
  rw [View.read_writes_apply_of_forall_not_mem]
  · rw [read_unread_whole]
  · intro p hp
    rw [List.mem_singleton] at hp
    subst hp
    exact inputs_free x a b

/-- All of the array of means, and all of the array of inputs. -/
abbrev allMeans : Rect S256x3x32 := Rect.unit ![0, 0, 0] ![256, 3, 32] inb_S256x3x32_S256x3x32_0_0_0
abbrev allInputs : Rect S256x3x512 := Rect.unit ![0, 0, 0] ![256, 3, 512] inb_S256x3x512_S256x3x512_0_0_0

/-- The whole array of means, and the whole array of inputs, read back after writes. -/
def readMeans (L : List (View.Piece (Elt Ideal) S256x3x32 .f32)) : FVec Ideal S256x3x32 .f32 :=
  View.readCov (Val := Elt Ideal) (View.whole cc0_scratch1) L allMeans.toLoadRect
def readInputs (L : List (View.Piece (Elt Ideal) S256x3x512 .f32)) : FVec Ideal S256x3x512 .f32 :=
  View.readCov (Val := Elt Ideal) (View.whole cc0_scratch2) L allInputs.toLoadRect

/-- They are the last written values. -/
theorem readMeans_eq (L : List (View.Piece (Elt Ideal) S256x3x32 .f32)) : readMeans L = View.canon L :=
  (View.readCov_eq_canon' _ L _).trans (View.ld_unit_lit inb_S256x3x32_S256x3x32_0_0_0 (View.canon L) (by decide))
theorem readInputs_eq (L : List (View.Piece (Elt Ideal) S256x3x512 .f32)) : readInputs L = View.canon L :=
  (View.readCov_eq_canon' _ L _).trans (View.ld_unit_lit inb_S256x3x512_S256x3x512_0_0_0 (View.canon L) (by decide))

variable (m : (ℓ : Loc nD τ sig) → Buf (Elt Ideal) ℓ) (c : Dev nD)

/-- The block of the batch a point stores, from its weights' blocks and the arrays of means and inputs. -/
def storedAt (t s : Fin cfg0.N) (μ : FVec Ideal S256x3x32 .f32) (ξ : FVec Ideal S256x3x512 .f32) : FVec Ideal S512x1x32 .f32 :=
  stored (iblk m c 0 t) μ ξ (k0_pay2 (iblk m c 2 s)) (k0_pay3 (iblk m c 3 s)) (k0_pay5 (k0_pay4 (iblk m c 4 s)))
    (k0_pay6 (iblk m c 5 s)) (k0_pay7 (iblk m c 6 s))
    (k0_pay10 (k0_pay8 (iblk m c 7 s)) (k0_pay9 (iblk m c 7 s)) (FloatOps.ofBits FTy.f32 1065353216#32))
    (k0_pay11 (iblk m c 8 s)) (k0_pay12 (iblk m c 9 s)) (k0_pay13 (iblk m c 10 s))

/-- What the first point stores. -/
theorem outA (t : Fin cfg0.N) (h0 : t.val % 2 = 0) : (outsAt0 m c t.val t.isLt).1 =
    storedAt m c t t (readMeans [squaresP (iblk m c 1 t), meansP (iblk m c 1 t)]) (readInputs [inputsP (iblk m c 0 t), onesP]) := by
  rw [outsAt0_A m c t h0]
  frame_open
  simp (disch := decide) only [↓ View.readCov_skip, ↓ View.readCov_cons_toLoadRect, ↓ View.readCov_fill]
  frame_out
  unfold storedAt stored readMeans readInputs squaresP meansP inputsP onesP
  with_reducible rfl

end Circuit

end
-- ==== Proof.KernelResult.lean ====
module

public import proofs.«01_k».proof.Proof.KernelArray

/-!
# The kernel's result, index by index

The grid has two points, each storing half of the batch. The first point reads back the arrays it has just filled. The
second reads back the weights and the means the first left, and writes its own inputs over the first's.
-/

@[expose] public section

set_option maxRecDepth 16384
set_option maxHeartbeats 2000000

noncomputable section

namespace Circuit

open Idealize.ShloMosaic
open Cert.KernelIdeal Cert.KernelIdeal.Gen

variable (m : (ℓ : Loc nD τ sig) → Buf (Elt Ideal) ℓ) (c : Dev nD)

/-- The rows of the array of all weights that hold one layer's. -/
abbrev rows {f : Nat} (o : Nat) (h : ∀ a, (![o, 0, 0] : Fin 3 → Nat) a + (![f, 32, 32] : Fin 3 → Nat) a ≤ S511x32x32.size a) : Rect S511x32x32 :=
  Rect.unit ![o, 0, 0] ![f, 32, 32] h

/-- One layer's weights, read from the array of all weights. -/
def kept (W : FVec Ideal S511x32x32 .bf16) {f : Nat} (o : Nat) (h : ∀ a, (![o, 0, 0] : Fin 3 → Nat) a + (![f, 32, 32] : Fin 3 → Nat) a ≤ S511x32x32.size a) :
    FVec Ideal ⟨3, ![f, 32, 32]⟩ .bf16 :=
  View.ld (Val := Elt Ideal) (e' := .bf16) W (rows o h)

/-- What the second point stores, from the three arrays the first left. -/
theorem outB (t : Fin cfg0.N) (h0 : ¬ t.val % 2 = 0) (h : t.val - 1 < cfg0.N) : (outsAt0 m c t.val t.isLt).1 =
    stored (iblk m c 0 t) (outsAt0 m c (t.val - 1) h).2.2.1 (overwritten (iblk m c 0 t) (outsAt0 m c (t.val - 1) h).2.2.2)
      (kept (outsAt0 m c (t.val - 1) h).2.1 0 inb_S511x32x32_S256x32x32_0_0_0)
      (kept (outsAt0 m c (t.val - 1) h).2.1 256 inb_S511x32x32_S128x32x32_256_0_0)
      (kept (outsAt0 m c (t.val - 1) h).2.1 384 inb_S511x32x32_S64x32x32_384_0_0)
      (kept (outsAt0 m c (t.val - 1) h).2.1 448 inb_S511x32x32_S32x32x32_448_0_0)
      (kept (outsAt0 m c (t.val - 1) h).2.1 480 inb_S511x32x32_S16x32x32_480_0_0)
      (kept (outsAt0 m c (t.val - 1) h).2.1 496 inb_S511x32x32_S8x32x32_496_0_0)
      (kept (outsAt0 m c (t.val - 1) h).2.1 504 inb_S511x32x32_S4x32x32_504_0_0)
      (kept (outsAt0 m c (t.val - 1) h).2.1 508 inb_S511x32x32_S2x32x32_508_0_0)
      (kept (outsAt0 m c (t.val - 1) h).2.1 510 inb_S511x32x32_S1x32x32_510_0_0) := by
  rw [outsAt0_B m c t h0]
  generalize outsAt0 m c (t.val - 1) _ = P
  frame_open
  simp (disch := decide) only [↓ View.readCov_skip, ↓ View.readCov_cons_toLoadRect, ↓ View.readCov_fill]
  frame_out
  simp only [read_unread_whole]
  unfold stored inputsP kept
  with_reducible rfl

/-- The arrays of means and inputs the first point leaves. -/
theorem meansA (t : Fin cfg0.N) (h0 : t.val % 2 = 0) : (outsAt0 m c t.val t.isLt).2.2.1 =
    View.canon [squaresP (iblk m c 1 t), meansP (iblk m c 1 t)] := by
  rw [outsAt0_A m c t h0]
  frame_out
  unfold squaresP meansP
  with_reducible rfl

theorem inputsA (t : Fin cfg0.N) (h0 : t.val % 2 = 0) : (outsAt0 m c t.val t.isLt).2.2.2 =
    View.canon [inputsP (iblk m c 0 t), onesP] := by
  rw [outsAt0_A m c t h0]
  frame_out
  unfold inputsP onesP
  with_reducible rfl

/-- The weights of each layer, in the array of weights the first point leaves. -/
theorem weightsA (t : Fin cfg0.N) (h0 : t.val % 2 = 0) :
    kept (outsAt0 m c t.val t.isLt).2.1 0 inb_S511x32x32_S256x32x32_0_0_0 = k0_pay2 (F := Ideal) (iblk m c 2 t) ∧
    kept (outsAt0 m c t.val t.isLt).2.1 256 inb_S511x32x32_S128x32x32_256_0_0 = k0_pay3 (F := Ideal) (iblk m c 3 t) ∧
    kept (outsAt0 m c t.val t.isLt).2.1 384 inb_S511x32x32_S64x32x32_384_0_0 = k0_pay5 (F := Ideal) (k0_pay4 (iblk m c 4 t)) ∧
    kept (outsAt0 m c t.val t.isLt).2.1 448 inb_S511x32x32_S32x32x32_448_0_0 = k0_pay6 (F := Ideal) (iblk m c 5 t) ∧
    kept (outsAt0 m c t.val t.isLt).2.1 480 inb_S511x32x32_S16x32x32_480_0_0 = k0_pay7 (F := Ideal) (iblk m c 6 t) ∧
    kept (outsAt0 m c t.val t.isLt).2.1 496 inb_S511x32x32_S8x32x32_496_0_0 = k0_pay10 (F := Ideal) (k0_pay8 (iblk m c 7 t)) (k0_pay9 (iblk m c 7 t)) (FloatOps.ofBits FTy.f32 1065353216#32) ∧
    kept (outsAt0 m c t.val t.isLt).2.1 504 inb_S511x32x32_S4x32x32_504_0_0 = k0_pay11 (F := Ideal) (iblk m c 8 t) ∧
    kept (outsAt0 m c t.val t.isLt).2.1 508 inb_S511x32x32_S2x32x32_508_0_0 = k0_pay12 (F := Ideal) (iblk m c 9 t) ∧
    kept (outsAt0 m c t.val t.isLt).2.1 510 inb_S511x32x32_S1x32x32_510_0_0 = k0_pay13 (F := Ideal) (iblk m c 10 t) := by
  rw [outsAt0_A m c t h0]
  frame_out
  unfold kept
  refine ⟨?_, ?_, ?_, ?_, ?_, ?_, ?_, ?_, ?_⟩ <;>
    (refine (View.readCov_eq_canon' (Val := Elt Ideal) (View.whole cc0_scratch0) _ _).symm.trans ?_
     simp (disch := decide) only [↓ View.readCov_skip, ↓ View.readCov_cons_toLoadRect, ↓ View.readCov_fill])

/-- What the second point stores, from what the first put aside. -/
theorem outB_kept (t s : Fin cfg0.N) (ht : ¬ t.val % 2 = 0) (hs : t.val - 1 = s.val) : (outsAt0 m c t.val t.isLt).1 =
    storedAt m c t s (View.canon [squaresP (iblk m c 1 s), meansP (iblk m c 1 s)])
      (overwritten (iblk m c 0 t) (View.canon [inputsP (iblk m c 0 s), onesP])) := by
  obtain ⟨s, hs'⟩ := s
  obtain rfl : t.val - 1 = s := hs
  have h0 : (t.val - 1) % 2 = 0 := by omega
  obtain ⟨w₀, w₁, w₂, w₃, w₄, w₅, w₆, w₇, w₈⟩ := weightsA m c ⟨t.val - 1, hs'⟩ h0
  rw [outB m c t ht hs', w₀, w₁, w₂, w₃, w₄, w₅, w₆, w₇, w₈, meansA m c ⟨t.val - 1, hs'⟩ h0, inputsA m c ⟨t.val - 1, hs'⟩ h0]
  rfl

/-! ## The blocks the points read -/

/-- The parameters, the means and the rows of the batch, among the kernel's arguments. -/
def kerParams : Params where
  θ₀ := m ((c.tc : Thread nD τ).loc main_arg2)
  θ₁ := m ((c.tc : Thread nD τ).loc main_arg3)
  θ₂ := m ((c.tc : Thread nD τ).loc main_arg4)
  θ₃ := m ((c.tc : Thread nD τ).loc main_arg5)
  θ₄ := m ((c.tc : Thread nD τ).loc main_arg6)
  θ₅ := m ((c.tc : Thread nD τ).loc main_arg7)
  θ₆ := m ((c.tc : Thread nD τ).loc main_arg8)
  θ₇ := m ((c.tc : Thread nD τ).loc main_arg9)
  θ₈ := m ((c.tc : Thread nD τ).loc main_arg10)
def kerMeans : Fin 512 → Fin 32 → EReal := fun d k => (m ((c.tc : Thread nD τ).loc main_arg1) : FVec Ideal ⟨4, ![512, 1, 1, 32]⟩ .f32) (ix4 d 0 0 k)
def kerRow (r : Fin 1024) : Fin 512 → EReal := fun d => (m ((c.tc : Thread nD τ).loc main_arg0) : FVec Ideal ⟨3, ![1024, 1, 512]⟩ .f32) (ix3 r 0 d)

/-- The grid has two points. -/
theorem points : cfg0.N = 2 := by decide +kernel

/-- The row of the batch a point stores at a place of its block. -/
def row (t : Fin cfg0.N) (b : Fin 512) : Fin 1024 :=
  ⟨512 * t.val + b.val, by have := t.isLt; have := points; omega⟩

/-- Which block of each argument a point reads. -/
theorem index_batch : ∀ t : Fin cfg0.N, win0_0.index t = ![t.val, 0, 0] := by decide +kernel
theorem index_means : ∀ t, win0_1.index t = ![0, 0, 0, 0] := by decide +kernel
theorem index_params : ∀ t,
    win0_2.index t = ![0, 0, 0] ∧ win0_3.index t = ![0, 0, 0] ∧ win0_4.index t = ![0, 0, 0] ∧ win0_5.index t = ![0, 0, 0] ∧
    win0_6.index t = ![0, 0, 0] ∧ win0_7.index t = ![0, 0, 0] ∧ win0_8.index t = ![0, 0, 0] ∧ win0_9.index t = ![0, 0, 0] ∧ win0_10.index t = ![0, 0, 0] := by decide +kernel

/-- A point reads its half of the batch, -/
theorem block_batch (t : Fin cfg0.N) (b : Fin 512) (d : Fin 512) : iblk m c 0 t (ix3 b 0 d) = kerRow m c (row t b) d := by
  blk_ext [iblk, V, index_batch t, kerRow, row]

/-- all the means, -/
theorem block_means (t : Fin cfg0.N) (d : Fin 512) (k : Fin 32) : iblk m c 1 t (ix4 d 0 0 k) = kerMeans m c d k := by
  blk_ext [iblk, V, index_means t, kerMeans]

/-- and all the parameters. -/
theorem block_params (t : Fin cfg0.N) :
    iblk m c 2 t = (kerParams m c).θ₀ ∧ iblk m c 3 t = (kerParams m c).θ₁ ∧ iblk m c 4 t = (kerParams m c).θ₂ ∧ iblk m c 5 t = (kerParams m c).θ₃ ∧
    iblk m c 6 t = (kerParams m c).θ₄ ∧ iblk m c 7 t = (kerParams m c).θ₅ ∧ iblk m c 8 t = (kerParams m c).θ₆ ∧ iblk m c 9 t = (kerParams m c).θ₇ ∧ iblk m c 10 t = (kerParams m c).θ₈ := by
  obtain ⟨i₀, i₁, i₂, i₃, i₄, i₅, i₆, i₇, i₈⟩ := index_params t
  refine ⟨?_, ?_, ?_, ?_, ?_, ?_, ?_, ?_, ?_⟩ <;>
    (funext y; blk_ext [iblk, V, i₀, i₁, i₂, i₃, i₄, i₅, i₆, i₇, i₈, kerParams])

/-! ## The stored blocks -/

/-- The arrays of means and inputs are as the layers need them, once the inputs' rows are the point's and the ones. -/
theorem start (t s : Fin cfg0.N) (ξ : FVec Ideal S256x3x512 .f32)
    (lo : ∀ (a : Fin 256) (o : Fin 2) (b : Fin 512),
      ξ (ix3 a ⟨o.val, by omega⟩ b) = (iblk m c 0 t : FVec Ideal S512x1x512 .f32) (ix3 b 0 ⟨2 * a.val + o.val, by omega⟩))
    (hi : ∀ a b, ξ (ix3 a 2 b) = 1) :
    Start (kerMeans m c) (fun b => kerRow m c (row t b)) (iblk m c 0 t)
      (View.canon [squaresP (iblk m c 1 s), meansP (iblk m c 1 s)]) ξ where
  x b d := block_batch m c t b d
  μ₀ a k := (means_low _ a 0 k).trans (block_means m c s _ k)
  μ₁ a k := (means_low _ a 1 k).trans (block_means m c s _ k)
  μ₂ a k := by
    rw [means_high, meanSquares_apply _ a k ⟨2 * a.val + 0, by omega⟩ ⟨2 * a.val + 1, by omega⟩ rfl rfl,
      block_means, block_means]
  ξ₀ a b := (lo a 0 b).trans (block_batch m c t b _)
  ξ₁ a b := (lo a 1 b).trans (block_batch m c t b _)
  ξ₂ a b := hi a b

/-- A point's block, at an index: the value of the root for that row of the batch. -/
theorem storedAt_apply (t s : Fin cfg0.N) (μ : FVec Ideal S256x3x32 .f32) (ξ : FVec Ideal S256x3x512 .f32)
    (h : Start (kerMeans m c) (fun b => kerRow m c (row t b)) (iblk m c 0 t) μ ξ) (b : Fin 512) (j : Fin 32) :
    storedAt m c t s μ ξ (ix3 b 0 j) = level₈ (kerParams m c) (kerMeans m c) (kerRow m c (row t b)) 0 j := by
  unfold storedAt
  obtain ⟨e₀, e₁, e₂, e₃, e₄, e₅, e₆, e₇, e₈⟩ := block_params m c s
  rw [e₀, e₁, e₂, e₃, e₄, e₅, e₆, e₇, e₈]
  exact stored_apply (kerParams m c) h _ _ _ _ _ _ _ _ _ (weights₀_apply _) (weights₁_apply _) (weights₂_apply _)
    (weights₃_apply _) (weights₄_apply _) (weights₅_apply _) (weights₆_apply _) (weights₇_apply _) (weights₈_apply _) b j

/-- What a point leaves in its block of the result, at an index. -/
theorem out_apply (t : Fin cfg0.N) (b : Fin 512) (j : Fin 32) : (outsAt0 m c t.val t.isLt).1 (ix3 b 0 j) =
    level₈ (kerParams m c) (kerMeans m c) (kerRow m c (row t b)) 0 j := by
  by_cases ht : t.val % 2 = 0
  · rw [outA m c t ht, readMeans_eq, readInputs_eq]
    exact storedAt_apply m c t t _ _ (start m c t t _ (inputs_low _ _) (inputs_high _)) b j
  · have hN := t.isLt
    rw [outB_kept m c t ⟨t.val - 1, by omega⟩ ht rfl]
    exact storedAt_apply m c t _ _ _ (start m c t _ _ (overwritten_low _ _)
      fun a b => (overwritten_high _ _ a b).trans (inputs_high _ a b)) b j

/-- THE KERNEL'S RESULT, at an index: the value of the root for that row of the batch. -/
theorem result_apply (r : Fin 1024) (j : Fin 32) : Cert.KernelIdeal.Value.G11 m c (ix3 r 0 j) =
    level₈ (kerParams m c) (kerMeans m c) (kerRow m c r) 0 j := by
  have hp : Cert.KernelIdeal.Value.pt11Of (ix3 r 0 j) = r.val / 512 := by
    show 1 * (r.val / 512 - 0) + 1 * (0 / 1 - 0) + 1 * (j.val / 32 - 0) = r.val / 512
    omega
  have hr := r.isLt
  have hlt : r.val / 512 < cfg0.N := by have := points; omega
  have hl : Cert.KernelIdeal.Value.loc11Of (ix3 r 0 j) = ix3 ⟨r.val % 512, by omega⟩ 0 j := by
    funext a; apply Fin.ext
    match a with
    | ⟨0, _⟩ => rfl
    | ⟨1, _⟩ => rfl
    | ⟨2, _⟩ => exact Nat.mod_eq_of_lt j.isLt
  have hrow : row ⟨r.val / 512, hlt⟩ ⟨r.val % 512, by omega⟩ = r := Fin.ext (Nat.div_add_mod r.val 512)
  unfold Cert.KernelIdeal.Value.G11
  have hq : Cert.KernelIdeal.Value.pt11Of (ix3 r 0 j) < cfg0.N := by rw [hp]; exact hlt
  rw [dif_pos hq, ← Cert.KernelIdeal.Value.outsAt0_sweep m c _ hq, hl]
  have := out_apply m c ⟨r.val / 512, hlt⟩ ⟨r.val % 512, by omega⟩ j
  rw [hrow] at this
  simp only [hp]
  exact this

end Circuit

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.ReferenceStages
public import proofs.«01_k».proof.Proof.KernelResult
public import Idealize.ShloMosaic.Adequacy
public import Idealize.ShloMosaic.Init
public import Idealize.ShloMosaic.Lib.Quiescent

@[expose] public section

noncomputable section

namespace Cert.Proof

open Idealize.ShloMosaic Idealize.SL.Sem

/-- The reference ends without fault, its arguments unchanged and no counter set. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs' results are, at each index, the value of the circuit's root for that row of the batch. -/
theorem results_eq (m : (ℓ : Loc Cert.KernelIdeal.nD Cert.KernelIdeal.τ Cert.KernelIdeal.sig) → Buf (Elt Ideal) ℓ)
    (c : Dev Cert.KernelIdeal.nD) (V : Circuit.Args) (hp : Circuit.refParams V = Circuit.kerParams m c)
    (hm : Circuit.refMeans V = Circuit.kerMeans m c) (hr : Circuit.refRow V = Circuit.kerRow m c) :
    Circuit.resultA V = Cert.KernelIdeal.Value.G11 m c := by
  funext i
  obtain ⟨r, j, rfl⟩ : ∃ (r : Fin 1024) (j : Fin 32), i = ix3 r 0 j := by
    refine ⟨i 0, i 2, funext fun a => ?_⟩
    match a with
    | ⟨0, _⟩ => rfl
    | ⟨1, _⟩ => exact Subsingleton.elim (α := Fin 1) _ _
    | ⟨2, _⟩ => rfl
  rw [Circuit.resultA_apply V r j, hp, hm, hr]
  exact (Circuit.result_apply m c r j).symm

/-- The kernel over the extended reals computes what the reference computes there. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a₀, a₁, a₂, a₃, a₄, a₅, a₆, a₇, a₈, a₉, a₁₀⟩ := hagree c
  refine (h c).1.trans (results_eq m c (StableHlo.launchContents m' c) ?_ ?_ ?_)
  · exact (Circuit.Params.mk.injEq ..).mpr ⟨a₂, a₃, a₄, a₅, a₆, a₇, a₈, a₉, a₁₀⟩
  · funext d k
    exact congrFun a₁ (ix4 d 0 0 k)
  · funext r d
    exact congrFun a₀ (ix3 r 0 d)

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
